-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024x256 : Shape := ⟨3, ![64, 1024, 256]⟩
abbrev S512x256 : Shape := ⟨2, ![512, 256]⟩
abbrev S512x512 : Shape := ⟨2, ![512, 512]⟩
abbrev S512 : Shape := ⟨1, ![512]⟩
abbrev S2x512 : Shape := ⟨2, ![2, 512]⟩
abbrev S2 : Shape := ⟨1, ![2]⟩
abbrev S1024x64x256 : Shape := ⟨3, ![1024, 64, 256]⟩
abbrev S256x512 : Shape := ⟨2, ![256, 512]⟩
abbrev S1x512 : Shape := ⟨2, ![1, 512]⟩
abbrev S512x2 : Shape := ⟨2, ![512, 2]⟩
abbrev S1x2 : Shape := ⟨2, ![1, 2]⟩
abbrev S64x2 : Shape := ⟨2, ![64, 2]⟩
abbrev S64x64x256 : Shape := ⟨3, ![64, 64, 256]⟩
abbrev S64x512 : Shape := ⟨2, ![64, 512]⟩
abbrev S64x64x512 : Shape := ⟨3, ![64, 64, 512]⟩
abbrev S4096x512 : Shape := ⟨2, ![4096, 512]⟩
abbrev S4096x256 : Shape := ⟨2, ![4096, 256]⟩
abbrev S1x64x512 : Shape := ⟨3, ![1, 64, 512]⟩

abbrev nBuf : Space → Nat
  | .hbm => 29
  | .vmem => 16
  | .smem => 0
  | _ => 0

abbrev bufTy : (tb : Table) → Fin (tcTables nBuf tb) → BufTy
  | .hbm, ⟨0, _⟩ => ⟨S64x1024x256, .f32⟩
  | .hbm, ⟨1, _⟩ => ⟨S512x256, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S2x512, .f32⟩
  | .hbm, ⟨10, _⟩ => ⟨S2, .f32⟩
  | .hbm, ⟨11, _⟩ => ⟨S1024x64x256, .f32⟩
  | .hbm, ⟨12, _⟩ => ⟨S1024x64x256, .bf16⟩
  | .hbm, ⟨13, _⟩ => ⟨S256x512, .f32⟩
  | .hbm, ⟨14, _⟩ => ⟨S256x512, .bf16⟩
  | .hbm, ⟨15, _⟩ => ⟨S512x512, .f32⟩
  | .hbm, ⟨16, _⟩ => ⟨S512x512, .bf16⟩
  | .hbm, ⟨17, _⟩ => ⟨S512x512, .f32⟩
  | .hbm, ⟨18, _⟩ => ⟨S512x512, .bf16⟩
  | .hbm, ⟨19, _⟩ => ⟨S512x512, .f32⟩
  | .hbm, ⟨20, _⟩ => ⟨S512x512, .bf16⟩
  | .hbm, ⟨21, _⟩ => ⟨S512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S512x2, .f32⟩
  | .hbm, ⟨26, _⟩ => ⟨S512x2, .bf16⟩
  | .hbm, ⟨27, _⟩ => ⟨S1x2, .f32⟩
  | .hbm, ⟨28, _⟩ => ⟨S64x2, .f32⟩
  | .local _ .vmem, ⟨0, _⟩ => ⟨S64x64x256, .bf16⟩
  | .local _ .vmem, ⟨1, _⟩ => ⟨S64x64x256, .bf16⟩
  | .local _ .vmem, ⟨2, _⟩ => ⟨S256x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S512x2, .bf16⟩
  | .local _ .vmem, ⟨9, _⟩ => ⟨S1x2, .f32⟩
  | .local _ .vmem, ⟨10, _⟩ => ⟨S64x2, .f32⟩
  | .local _ .vmem, ⟨11, _⟩ => ⟨S64x512, .bf16⟩
  | .local _ .vmem, ⟨12, _⟩ => ⟨S64x512, .bf16⟩
  | .local _ .vmem, ⟨13, _⟩ => ⟨S64x64x512, .bf16⟩
  | .local _ .vmem, ⟨14, _⟩ => ⟨S64x64x512, .bf16⟩
  | .local _ .vmem, ⟨15, _⟩ => ⟨S64x64x512, .bf16⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32_863 : BitVec 32 := 15#32
  let v1705 : BitVec 1 := Scalar.cmpi .eq arg1 c15_i32_863
  let v1706 : BitVec 32 := Scalar.extui v1705
  let c0_i32_864 : BitVec 32 := 0#32
  let v1707 : BitVec 1 := Scalar.cmpi .ne v1706 c0_i32_864
  v1707

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S64x1024x256 : Shape := ⟨3, ![64, 1024, 256]⟩
abbrev S512x256 : Shape := ⟨2, ![512, 256]⟩
abbrev S512x512 : Shape := ⟨2, ![512, 512]⟩
abbrev S512 : Shape := ⟨1, ![512]⟩
abbrev S2x512 : Shape := ⟨2, ![2, 512]⟩
abbrev S2 : Shape := ⟨1, ![2]⟩
abbrev S64x1024x512 : Shape := ⟨3, ![64, 1024, 512]⟩
abbrev S1x1x512 : Shape := ⟨3, ![1, 1, 512]⟩
abbrev S_ : Shape := ⟨0, ![]⟩
abbrev S64x512 : Shape := ⟨2, ![64, 512]⟩
abbrev S1024x64x512 : Shape := ⟨3, ![1024, 64, 512]⟩
abbrev S1x64x512 : Shape := ⟨3, ![1, 64, 512]⟩
abbrev S64x1x512 : Shape := ⟨3, ![64, 1, 512]⟩
abbrev S512x2 : Shape := ⟨2, ![512, 2]⟩
abbrev S64x2 : Shape := ⟨2, ![64, 2]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S512x256, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512, .f32⟩
  | .hbm, ⟨9, _⟩ => ⟨S2x512, .f32⟩
  | .hbm, ⟨10, _⟩ => ⟨S2, .f32⟩
  | .hbm, ⟨11, _⟩ => ⟨S64x1024x512, .f32⟩
  | .hbm, ⟨12, _⟩ => ⟨S512, .f32⟩
  | .hbm, ⟨13, _⟩ => ⟨S1x1x512, .f32⟩
  | .hbm, ⟨14, _⟩ => ⟨S64x1024x512, .f32⟩
  | .hbm, ⟨15, _⟩ => ⟨S64x1024x512, .f32⟩
  | .hbm, ⟨16, _⟩ => ⟨S_, .f32⟩
  | .hbm, ⟨17, _⟩ => ⟨S64x512, .f32⟩
  | .hbm, ⟨18, _⟩ => ⟨S1024x64x512, .f32⟩
  | .hbm, ⟨19, _⟩ => ⟨S_, .f32⟩
  | .hbm, ⟨20, _⟩ => ⟨S1024x64x512, .f32⟩
  | .hbm, ⟨21, _⟩ => ⟨S_, .i32⟩
  | .hbm, ⟨22, _⟩ => ⟨S1024x64x512, .f32⟩
  | .hbm, ⟨23, _⟩ => ⟨S512x512, .f32⟩
  | .hbm, ⟨24, _⟩ => ⟨S_, .i32⟩
  | .hbm, ⟨25, _⟩ => ⟨S64x512, .f32⟩
  | .hbm, ⟨26, _⟩ => ⟨S1024x64x512, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1x64x512, .f32⟩
  | .hbm, ⟨32, _⟩ => ⟨S64x512, .f32⟩
  | .hbm, ⟨33, _⟩ => ⟨S512x512, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S1x64x512, .f32⟩
  | .hbm, ⟨38, _⟩ => ⟨S_, .i32⟩
  | .hbm, ⟨39, _⟩ => ⟨S_, .i32⟩
  | .hbm, ⟨40, _⟩ => ⟨S1024x64x512, .f32⟩
  | .hbm, ⟨41, _⟩ => ⟨S_, .i32⟩
  | .hbm, ⟨42, _⟩ => ⟨S_, .i32⟩
  | .hbm, ⟨43, _⟩ => ⟨S64x1024x512, .f32⟩
  | .hbm, ⟨44, _⟩ => ⟨S64x1024x512, .f32⟩
  | .hbm, ⟨45, _⟩ => ⟨S512, .f32⟩
  | .hbm, ⟨46, _⟩ => ⟨S1x1x512, .f32⟩
  | .hbm, ⟨47, _⟩ => ⟨S64x1024x512, .f32⟩
  | .hbm, ⟨48, _⟩ => ⟨S64x1024x512, .f32⟩
  | .hbm, ⟨49, _⟩ => ⟨S_, .f32⟩
  | .hbm, ⟨50, _⟩ => ⟨S64x512, .f32⟩
  | .hbm, ⟨51, _⟩ => ⟨S1024x64x512, .f32⟩
  | .hbm, ⟨52, _⟩ => ⟨S_, .f32⟩
  | .hbm, ⟨53, _⟩ => ⟨S1024x64x512, .f32⟩
  | .hbm, ⟨54, _⟩ => ⟨S_, .i32⟩
  | .hbm, ⟨55, _⟩ => ⟨S1024x64x512, .f32⟩
  | .hbm, ⟨56, _⟩ => ⟨S512x512, .f32⟩
  | .hbm, ⟨57, _⟩ => ⟨S_, .i32⟩
  | .hbm, ⟨58, _⟩ => ⟨S64x512, .f32⟩
  | .hbm, ⟨59, _⟩ => ⟨S1024x64x512, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1x64x512, .f32⟩
  | .hbm, ⟨65, _⟩ => ⟨S64x512, .f32⟩
  | .hbm, ⟨66, _⟩ => ⟨S512x512, .f32⟩
  | .hbm, ⟨67, _⟩ => ⟨S64x512, .f32⟩
  | .hbm, ⟨68, _⟩ => ⟨S64x512, .f32⟩
  | .hbm, ⟨69, _⟩ => ⟨S64x512, .f32⟩
  | .hbm, ⟨70, _⟩ => ⟨S1x64x512, .f32⟩
  | .hbm, ⟨71, _⟩ => ⟨S_, .i32⟩
  | .hbm, ⟨72, _⟩ => ⟨S_, .i32⟩
  | .hbm, ⟨73, _⟩ => ⟨S1024x64x512, .f32⟩
  | .hbm, ⟨74, _⟩ => ⟨S_, .i32⟩
  | .hbm, ⟨75, _⟩ => ⟨S_, .i32⟩
  | .hbm, ⟨76, _⟩ => ⟨S64x1024x512, .f32⟩
  | .hbm, ⟨77, _⟩ => ⟨S64x1x512, .f32⟩
  | .hbm, ⟨78, _⟩ => ⟨S64x512, .f32⟩
  | .hbm, ⟨79, _⟩ => ⟨S512x2, .f32⟩
  | .hbm, ⟨80, _⟩ => ⟨S64x2, .f32⟩
  | .hbm, ⟨81, _⟩ => ⟨S1x2, .f32⟩
  | .hbm, ⟨82, _⟩ => ⟨S64x2, .f32⟩
  | .hbm, ⟨83, _⟩ => ⟨S64x2, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_c : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev main_while0c_c_8 : Ref sig .tc := ⟨.hbm, 27, rfl⟩
abbrev main_while0c_v27 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v27 : Ref sig .tc := ⟨.hbm, 32, rfl⟩
abbrev main_while0b_v28 : Ref sig .tc := ⟨.hbm, 33, rfl⟩
abbrev main_while0b_v29 : Ref sig .tc := ⟨.hbm, 34, rfl⟩
abbrev main_while0b_v30 : Ref sig .tc := ⟨.hbm, 35, rfl⟩
abbrev main_while0b_v31 : Ref sig .tc := ⟨.hbm, 36, rfl⟩
abbrev main_while0b_call1_v0 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_v32 : Ref sig .tc := ⟨.hbm, 40, rfl⟩
abbrev main_while0b_c_8 : Ref sig .tc := ⟨.hbm, 41, rfl⟩
abbrev main_while0b_v33 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_v16 : Ref sig .tc := ⟨.hbm, 51, rfl⟩
abbrev main_cst_2 : Ref sig .tc := ⟨.hbm, 52, rfl⟩
abbrev main_v17 : Ref sig .tc := ⟨.hbm, 53, rfl⟩
abbrev main_c_3 : Ref sig .tc := ⟨.hbm, 54, rfl⟩
abbrev main_v18_0 : Ref sig .tc := ⟨.hbm, 55, rfl⟩
abbrev main_v18_1 : Ref sig .tc := ⟨.hbm, 56, rfl⟩
abbrev main_v18_2 : Ref sig .tc := ⟨.hbm, 57, rfl⟩
abbrev main_v18_3 : Ref sig .tc := ⟨.hbm, 58, rfl⟩
abbrev main_v18_4 : Ref sig .tc := ⟨.hbm, 59, rfl⟩
abbrev main_while1c_c_8 : Ref sig .tc := ⟨.hbm, 60, rfl⟩
abbrev main_while1c_v27 : Ref sig .tc := ⟨.hbm, 61, rfl⟩
abbrev main_while1b_call2_c : Ref sig .tc := ⟨.hbm, 62, rfl⟩
abbrev main_while1b_call2_c_0 : Ref sig .tc := ⟨.hbm, 63, rfl⟩
abbrev main_while1b_call2_v0 : Ref sig .tc := ⟨.hbm, 64, rfl⟩
abbrev main_while1b_v27 : Ref sig .tc := ⟨.hbm, 65, rfl⟩
abbrev main_while1b_v28 : Ref sig .tc := ⟨.hbm, 66, rfl⟩
abbrev main_while1b_v29 : Ref sig .tc := ⟨.hbm, 67, rfl⟩
abbrev main_while1b_v30 : Ref sig .tc := ⟨.hbm, 68, rfl⟩
abbrev main_while1b_v31 : Ref sig .tc := ⟨.hbm, 69, rfl⟩
abbrev main_while1b_call3_v0 : Ref sig .tc := ⟨.hbm, 70, rfl⟩
abbrev main_while1b_call3_c : Ref sig .tc := ⟨.hbm, 71, rfl⟩
abbrev main_while1b_call3_c_0 : Ref sig .tc := ⟨.hbm, 72, rfl⟩
abbrev main_while1b_v32 : Ref sig .tc := ⟨.hbm, 73, rfl⟩
abbrev main_while1b_c_8 : Ref sig .tc := ⟨.hbm, 74, rfl⟩
abbrev main_while1b_v33 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩

abbrev nD : Nat := 1
abbrev τ : Topo := Topo.v7x

variable {F : FTy → Type} [FloatOps F]

abbrev main_while0_count : Scf.Loop 32 := ⟨0#32, 1024#32, 1#32⟩

abbrev main_while1_count : Scf.Loop 32 := ⟨0#32, 1024#32, 1#32⟩
-- ==== Proof.Body.lean ====
/- The body of the kernel, read as two counted loops.

   The program is printed with both of its loops written out: sixty-four steps of the two-layer
   recurrence, and, at the last grid point, sixty-four further steps of the second layer alone. Here
   each step is stated once, at a symbolic row `k`, and the printed body is shown to be the loops
   over these steps. -/
module

public import proofs.«01_k».proof.Proof.Gen.KernelIdeal.Frame

@[expose] public section

noncomputable section

namespace Cert.KernelIdeal.Rnn

open Idealize.ShloMosaic Idealize.SL.Sem
open Cert.KernelIdeal.Gen

variable {F : FTy → Type} [FloatOps F]

/-- A row of a sixty-four row buffer lies inside it. -/
theorem rowInb (k : Nat) (hk : k < 64) : ∀ a, (![k, 0, 0] : Fin 3 → Nat) a + S1x64x512.size a ≤ S64x64x512.size a :=
  (by decide +kernel : ∀ k : Fin 64, ∀ a, (![k.val, 0, 0] : Fin 3 → Nat) a + S1x64x512.size a ≤ S64x64x512.size a) ⟨k, hk⟩

/-- Row `k` of a sixty-four row buffer, as a rectangle. -/
abbrev row (k : Nat) (hk : k < 64) : Rect S64x64x512 :=
  Rect.unit (s := S64x64x512) ![k, 0, 0] S1x64x512.size (rowInb k hk)

/-- A row holds whole packed words of sixteen-bit elements. -/
theorem rowPacked (k : Nat) (hk : k < 64) : (row k hk).PackedRows (EltTy.packing .bf16) :=
  (by decide +kernel : ∀ k : Fin 64, (row k.val k.isLt).PackedRows (EltTy.packing .bf16)) ⟨k, hk⟩

/-! ## What the body computes -/

/-- The recurrence's update before its rounding: the tanh of a row of pre-activations plus the state times the weights. -/
def cell (w : Vec F S512x512 .bf16) (x : Vec F S1x64x512 .bf16) (h : FVec F S64x512 .bf16) : FVec F S64x512 .f32 :=
  tanh (addf (extf .f32 (shapeCast S64x512 x shapeCasts_S1x64x512_S64x512) bitsLt_bf16_f32)
    (matmul dot_S64x512_S512x512_S64x512_1_0_0_1_n_n none h (shapeCast S512x512 w shapeCasts_S512x512_S512x512) (constant S64x512 .f32 0x00000000#32)))

/-- One step of a layer. -/
def stepA (w : Vec F S512x512 .bf16) (x : Vec F S1x64x512 .bf16) (h : FVec F S64x512 .bf16) : FVec F S64x512 .bf16 :=
  truncf .bf16 (cell w x h) bitsLt_bf16_f32

/-- One step of the second layer, held at zero where the bit `b` is not set. -/
def stepB (b : BitVec 1) (w : Vec F S512x512 .bf16) (x : Vec F S1x64x512 .bf16) (h : FVec F S64x512 .bf16) : FVec F S64x512 .bf16 :=
  truncf .bf16 (Scalar.select b (cell w x h) (broadcast S64x512 (Scalar.ofBits .f32 0x00000000#32))) bitsLt_bf16_f32

/-- A state as the row it is stored as. -/
def asRow (h : FVec F S64x512 .bf16) : FVec F S1x64x512 .bf16 := shapeCast S1x64x512 h shapeCasts_S64x512_S1x64x512

/-- The zero state. -/
def zeroState : FVec F S64x512 .bf16 :=
  shapeCast S64x512 (broadcast S64x512 (Scalar.ofBits .bf16 0x0000#16 : F .bf16)) shapeCasts_S64x512_S64x512

/-- The second layer's pre-activations of a block of first-layer states. -/
def preB (hb : Vec F S64x64x512 .bf16) (w : Vec F S512x512 .bf16) (b : Vec F S1x512 .f32) : FVec F S64x64x512 .bf16 :=
  shapeCast S64x64x512 (shapeCast S64x64x512 (truncf .bf16 (addf
    (matmul dot_S4096x512_S512x512_S4096x512_1_0_0_1_n_n none (shapeCast S4096x512 hb shapeCasts_S64x64x512_S4096x512)
      (shapeCast S512x512 w shapeCasts_S512x512_S512x512) (constant S4096x512 .f32 0x00000000#32))
    (broadcastTo S4096x512 (shapeCast S1x512 b shapeCasts_S1x512_S1x512) broadcasts_S1x512_S4096x512)) bitsLt_bf16_f32)
    shapeCasts_S4096x512_S64x64x512) shapeCasts_S64x64x512_S64x64x512

/-- The first layer's pre-activations of a block of inputs. -/
def preA (x : Vec F S64x64x256 .bf16) (w : Vec F S256x512 .bf16) (b : Vec F S1x512 .f32) : FVec F S64x64x512 .bf16 :=
  shapeCast S64x64x512 (shapeCast S64x64x512 (truncf .bf16 (addf
    (matmul dot_S4096x256_S256x512_S4096x512_1_0_0_1_n_n none
      (shapeCast S4096x256 (shapeCast S64x64x256 x shapeCasts_S64x64x256_S64x64x256) shapeCasts_S64x64x256_S4096x256)
      (shapeCast S256x512 w shapeCasts_S256x512_S256x512) (constant S4096x512 .f32 0x00000000#32))
    (broadcastTo S4096x512 (shapeCast S1x512 b shapeCasts_S1x512_S1x512) broadcasts_S1x512_S4096x512)) bitsLt_bf16_f32)
    shapeCasts_S4096x512_S64x64x512) shapeCasts_S64x64x512_S64x64x512

/-- The output layer on the last state. -/
def head (w : Vec F S512x2 .bf16) (b : Vec F S1x2 .f32) (h : FVec F S64x512 .bf16) : FVec F S64x2 .f32 :=
  addf (matmul dot_S64x512_S512x2_S64x2_1_0_0_1_n_n none h (shapeCast S512x2 w shapeCasts_S512x2_S512x2) (constant S64x2 .f32 0x00000000#32))
    (broadcastTo S64x2 (shapeCast S1x2 b shapeCasts_S1x2_S1x2) broadcasts_S1x2_S64x2)

/-! ## The body as loops -/

/-- A program of the kernel's signature, returning nothing. -/
abbrev BodyProg (F : FTy → Type) [FloatOps F] := Prog (TpuEff nD τ sig (Elt F) Λ₀ .tc) PUnit

/-- The bit that is set from the second grid point on. -/
def live (i : grid0.Coords) : BitVec 1 := Scalar.cmpi .sgt (BitVec.ofNat 32 (i 1).val) 0#32

/-- The bit that is set at the first grid point. -/
def first (i : grid0.Coords) : BitVec 1 :=
  Scalar.cmpi .ne (Scalar.extui (Scalar.cmpi .eq (BitVec.ofNat 32 (i 1).val) 0#32) : BitVec 32) 0#32

section
variable (i : grid0.Coords) (arg2 : Memref sig .tc .vmem S64x64x256 .bf16) (harg2 : arg2.IsWhole) (arg3 : Memref sig .tc .vmem S256x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S512x2 .bf16) (harg9 : arg9.IsWhole) (arg10 : Memref sig .tc .vmem S1x2 .f32) (harg10 : arg10.IsWhole) (arg11 : Memref sig .tc .vmem S64x2 .f32) (harg11 : arg11.IsWhole) (arg12 : Memref sig .tc .vmem S64x512 .bf16) (harg12 : arg12.IsWhole) (arg13 : Memref sig .tc .vmem S64x512 .bf16) (harg13 : arg13.IsWhole) (arg14 : Memref sig .tc .vmem S64x64x512 .bf16) (harg14 : arg14.IsWhole) (arg15 : Memref sig .tc .vmem S64x64x512 .bf16) (harg15 : arg15.IsWhole) (arg16 : Memref sig .tc .vmem S64x64x512 .bf16) (harg16 : arg16.IsWhole)

/-- The two-layer loop: `n` steps from row `k`, both layers' states carried. -/
def mainLoop : (n k : Nat) → k + n ≤ 64 → FVec F S64x512 .bf16 → FVec F S64x512 .bf16 →
    (FVec F S64x512 .bf16 → FVec F S64x512 .bf16 → BodyProg F) → BodyProg F
  | 0, _, _, h₁, h₂, K => K h₁ h₂
  | n + 1, k, hkn, h₁, h₂, K =>
  have hk : k < 64 := by omega
  Prog.op (.load arg14 (row k hk).toLoadRect (View.loadsAt_vmem h_S1x64x512)) fun (x : Vec F S1x64x512 .bf16) =>
  Prog.op (.load arg4 (Rect.unit (s := S512x512) ![0, 0] S512x512.size inb_S512x512_S512x512_0_0).toLoadRect (View.loadsAt_vmem h_S512x512)) fun (w : Vec F S512x512 .bf16) =>
  Prog.op (.load arg15 (row k hk).toLoadRect (View.loadsAt_vmem h_S1x64x512)) fun (y : Vec F S1x64x512 .bf16) =>
  Prog.op (.load arg6 (Rect.unit (s := S512x512) ![0, 0] S512x512.size inb_S512x512_S512x512_0_0).toLoadRect (View.loadsAt_vmem h_S512x512)) fun (v : Vec F S512x512 .bf16) =>
  Prog.op (.load arg16 (row k hk).toLoadRect (View.loadsAt_vmem h_S1x64x512)) fun (_d : Vec F S1x64x512 .bf16) =>
  Prog.op (.store arg16 (row k hk) (asRow (stepA w x h₁)) Finset.univ (View.stores_vmem h_S1x64x512 (harg16.storeExact_slice rfl _ (rowPacked k hk)) (fun _ => rfl)) (.inl rfl)) fun _ =>
  mainLoop n (k + 1) (by omega) (stepA w x h₁) (stepB (live i) v y h₂) K

/-- The last point's loop: `n` further steps of the second layer from row `k`. -/
def tailLoop : (n k : Nat) → k + n ≤ 64 → FVec F S64x512 .bf16 → (FVec F S64x512 .bf16 → BodyProg F) → BodyProg F
  | 0, _, _, h₂, K => K h₂
  | n + 1, k, hkn, h₂, K =>
  have hk : k < 64 := by omega
  Prog.op (.load arg15 (row k hk).toLoadRect (View.loadsAt_vmem h_S1x64x512)) fun (y : Vec F S1x64x512 .bf16) =>
  Prog.op (.load arg6 (Rect.unit (s := S512x512) ![0, 0] S512x512.size inb_S512x512_S512x512_0_0).toLoadRect (View.loadsAt_vmem h_S512x512)) fun (v : Vec F S512x512 .bf16) =>
  tailLoop n (k + 1) (by omega) (stepA v y h₂) K

/-- The second layer's pre-activations of the block of states held, stored. -/
def storePreB (K : BodyProg F) : BodyProg F :=
  Prog.op (.load arg16 (Rect.unit (s := S64x64x512) ![0, 0, 0] S64x64x512.size inb_S64x64x512_S64x64x512_0_0_0).toLoadRect (View.loadsAt_vmem h_S64x64x512)) fun (hb : Vec F S64x64x512 .bf16) =>
  Prog.op (.load arg5 (Rect.unit (s := S512x512) ![0, 0] S512x512.size inb_S512x512_S512x512_0_0).toLoadRect (View.loadsAt_vmem h_S512x512)) fun (w : Vec F S512x512 .bf16) =>
  Prog.op (.load arg8 (Rect.unit (s := S1x512) ![0, 0] S1x512.size inb_S1x512_S1x512_0_0).toLoadRect (View.loadsAt_vmem h_S1x512)) fun (b : Vec F S1x512 .f32) =>
  Prog.op (.load arg15 (Rect.unit (s := S64x64x512) ![0, 0, 0] S64x64x512.size inb_S64x64x512_S64x64x512_0_0_0).toLoadRect (View.loadsAt_vmem h_S64x64x512)) fun (_d : Vec F S64x64x512 .bf16) =>
  Prog.op (.store arg15 (Rect.unit (s := S64x64x512) ![0, 0, 0] S64x64x512.size inb_S64x64x512_S64x64x512_0_0_0) (preB hb w b) Finset.univ (View.stores_vmem h_S64x64x512 (harg15.storeExact_slice rfl _ packedbf16_S64x64x512_S64x64x512_0_0_0) (fun _ => rfl)) (.inl rfl)) fun _ =>
  K

/-- The first layer's pre-activations of the block of inputs. -/
def loadPreA (K : FVec F S64x64x512 .bf16 → BodyProg F) : BodyProg F :=
  Prog.op (.load arg2 (Rect.unit (s := S64x64x256) ![0, 0, 0] S64x64x256.size inb_S64x64x256_S64x64x256_0_0_0).toLoadRect (View.loadsAt_vmem h_S64x64x256)) fun (x : Vec F S64x64x256 .bf16) =>
  Prog.op (.load arg3 (Rect.unit (s := S256x512) ![0, 0] S256x512.size inb_S256x512_S256x512_0_0).toLoadRect (View.loadsAt_vmem h_S256x512)) fun (w : Vec F S256x512 .bf16) =>
  Prog.op (.load arg7 (Rect.unit (s := S1x512) ![0, 0] S1x512.size inb_S1x512_S1x512_0_0).toLoadRect (View.loadsAt_vmem h_S1x512)) fun (b : Vec F S1x512 .f32) =>
  Prog.op (.load arg14 (Rect.unit (s := S64x64x512) ![0, 0, 0] S64x64x512.size inb_S64x64x512_S64x64x512_0_0_0).toLoadRect (View.loadsAt_vmem h_S64x64x512)) fun (_d : Vec F S64x64x512 .bf16) =>
  K (preA x w b)

/-- The first layer's pre-activations of the block of inputs, stored. -/
def storePreA (K : BodyProg F) : BodyProg F :=
  loadPreA arg2 arg3 arg7 arg14 fun v =>
  Prog.op (.store arg14 (Rect.unit (s := S64x64x512) ![0, 0, 0] S64x64x512.size inb_S64x64x512_S64x64x512_0_0_0) v Finset.univ (View.stores_vmem h_S64x64x512 (harg14.storeExact_slice rfl _ packedbf16_S64x64x512_S64x64x512_0_0_0) (fun _ => rfl)) (.inl rfl)) fun _ =>
  K

/-- The first grid point's start: both states zero. -/
def initStates (K : BodyProg F) : BodyProg F :=
  Prog.op (.load arg12 (Rect.unit (s := S64x512) ![0, 0] S64x512.size inb_S64x512_S64x512_0_0).toLoadRect (View.loadsAt_vmem h_S64x512)) fun (_d : Vec F S64x512 .bf16) =>
  Prog.op (.store arg12 (Rect.unit (s := S64x512) ![0, 0] S64x512.size inb_S64x512_S64x512_0_0) zeroState Finset.univ (View.stores_vmem h_S64x512 (harg12.storeExact_slice rfl _ packedbf16_S64x512_S64x512_0_0) (fun _ => rfl)) (.inl rfl)) fun _ =>
  Prog.op (.load arg13 (Rect.unit (s := S64x512) ![0, 0] S64x512.size inb_S64x512_S64x512_0_0).toLoadRect (View.loadsAt_vmem h_S64x512)) fun (_e : Vec F S64x512 .bf16) =>
  Prog.op (.store arg13 (Rect.unit (s := S64x512) ![0, 0] S64x512.size inb_S64x512_S64x512_0_0) zeroState Finset.univ (View.stores_vmem h_S64x512 (harg13.storeExact_slice rfl _ packedbf16_S64x512_S64x512_0_0) (fun _ => rfl)) (.inl rfl)) fun _ =>
  K

/-- The first grid point's start, and nothing at any other. -/
def withInit (K : BodyProg F) : BodyProg F :=
  if _h : first i = 1#1 then initStates arg12 harg12 arg13 harg13 K else K

/-- The last grid point's end: the last block's second layer and the output layer. -/
def lastPart (h₂ : FVec F S64x512 .bf16) : BodyProg F :=
  storePreB arg5 arg8 arg15 harg15 arg16 <|
  tailLoop arg6 arg15 64 0 (by omega) h₂ fun h =>
  Prog.op (.load arg9 (Rect.unit (s := S512x2) ![0, 0] S512x2.size inb_S512x2_S512x2_0_0).toLoadRect (View.loadsAt_vmem h_S512x2)) fun (w : Vec F S512x2 .bf16) =>
  Prog.op (.load arg10 (Rect.unit (s := S1x2) ![0, 0] S1x2.size inb_S1x2_S1x2_0_0).toLoadRect (View.loadsAt_vmem h_S1x2)) fun (b : Vec F S1x2 .f32) =>
  Prog.op (.load arg11 (Rect.unit (s := S64x2) ![0, 0] S64x2.size inb_S64x2_S64x2_0_0).toLoadRect (View.loadsAt_vmem h_S64x2)) fun (_d : Vec F S64x2 .f32) =>
  Prog.op (.store arg11 (Rect.unit (s := S64x2) ![0, 0] S64x2.size inb_S64x2_S64x2_0_0) (head w b h) Finset.univ (View.stores_vmem_bits_univ h_S64x2 rfl) (.inl rfl)) fun _ =>
  Prog.ret ⟨⟩

/-- The body after its start: the pre-activations, the loop over the block's rows, the states stored. -/
def midPart (K : FVec F S64x512 .bf16 → BodyProg F) : BodyProg F :=
  storePreB arg5 arg8 arg15 harg15 arg16 <|
  storePreA arg2 arg3 arg7 arg14 harg14 <|
  Prog.op (.load arg12 (Rect.unit (s := S64x512) ![0, 0] S64x512.size inb_S64x512_S64x512_0_0).toLoadRect (View.loadsAt_vmem h_S64x512)) fun (h₁ : Vec F S64x512 .bf16) =>
  Prog.op (.load arg13 (Rect.unit (s := S64x512) ![0, 0] S64x512.size inb_S64x512_S64x512_0_0).toLoadRect (View.loadsAt_vmem h_S64x512)) fun (h₂ : Vec F S64x512 .bf16) =>
  mainLoop i arg4 arg6 arg14 arg15 arg16 harg16 64 0 (by omega) h₁ h₂ fun g₁ g₂ =>
  Prog.op (.load arg12 (Rect.unit (s := S64x512) ![0, 0] S64x512.size inb_S64x512_S64x512_0_0).toLoadRect (View.loadsAt_vmem h_S64x512)) fun (_d : Vec F S64x512 .bf16) =>
  Prog.op (.store arg12 (Rect.unit (s := S64x512) ![0, 0] S64x512.size inb_S64x512_S64x512_0_0) (shapeCast S64x512 g₁ shapeCasts_S64x512_S64x512) Finset.univ (View.stores_vmem h_S64x512 (harg12.storeExact_slice rfl _ packedbf16_S64x512_S64x512_0_0) (fun _ => rfl)) (.inl rfl)) fun _ =>
  Prog.op (.load arg13 (Rect.unit (s := S64x512) ![0, 0] S64x512.size inb_S64x512_S64x512_0_0).toLoadRect (View.loadsAt_vmem h_S64x512)) fun (_e : Vec F S64x512 .bf16) =>
  Prog.op (.store arg13 (Rect.unit (s := S64x512) ![0, 0] S64x512.size inb_S64x512_S64x512_0_0) (shapeCast S64x512 g₂ shapeCasts_S64x512_S64x512) Finset.univ (View.stores_vmem h_S64x512 (harg13.storeExact_slice rfl _ packedbf16_S64x512_S64x512_0_0) (fun _ => rfl)) (.inl rfl)) fun _ =>
  K g₂

/-- The kernel's body, as loops. -/
def loopBody : BodyProg F :=
  withInit i arg12 harg12 arg13 harg13 <|
  midPart i arg2 arg3 arg4 arg5 arg6 arg7 arg8 arg12 harg12 arg13 harg13 arg14 harg14 arg15 harg15 arg16 harg16 fun h₂ =>
  if _h : k0_cond2 i = 1#1 then lastPart arg5 arg6 arg8 arg9 arg10 arg11 arg15 harg15 arg16 h₂ else Prog.ret ⟨⟩

/-- The first printed part is the start, the second layer's pre-activations, and the first layer's up to their store. -/
theorem part19_eq (K : (Σ' (_ : BitVec 32), FVec F S64x64x512 .bf16) → BodyProg F) :
    (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16).bind K
    = withInit i arg12 harg12 arg13 harg13 (storePreB arg5 arg8 arg15 harg15 arg16 (loadPreA arg2 arg3 arg7 arg14 fun v =>
        K ⟨BitVec.ofNat 32 (i 1).val, v⟩)) := by
  unfold withInit
  by_cases h : first i = 1#1
  · rw [dif_pos h]
    unfold k0_part19
    refine (congrArg (fun p => Prog.bind p K) (dif_pos h)).trans ?_
    rfl
  · rw [dif_neg h]
    unfold k0_part19
    refine (congrArg (fun p => Prog.bind p K) (dif_neg h)).trans ?_
    rfl

set_option maxRecDepth 1000000 in
set_option maxHeartbeats 4000000 in
/-- The printed body is the loops: by unfolding both. -/
theorem body_eq_loopBody : cc0__rnn_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
    = loopBody i arg2 arg3 arg4 arg5 arg6 arg7 arg8 arg9 arg10 arg11 arg12 harg12 arg13 harg13 arg14 harg14 arg15 harg15 arg16 harg16 := by
  refine (part19_eq i arg2 harg2 arg3 harg3 arg4 harg4 arg5 harg5 arg6 harg6 arg7 harg7 arg8 harg8 arg9 harg9 arg10 harg10 arg11 harg11 arg12 harg12 arg13 harg13 arg14 harg14 arg15 harg15 arg16 harg16 _).trans ?_
  refine congrArg (withInit i arg12 harg12 arg13 harg13) ?_
  rfl

end

end Cert.KernelIdeal.Rnn

end
-- ==== Proof.Steps.lean ====
/- The two loops run: what one step of each reads and writes, and what the loops leave. -/
module

public import proofs.«01_k».proof.Proof.Body
public import Idealize.ShloMosaic.Lib.Pipeline.Value

@[expose] public section

noncomputable section

namespace Cert.KernelIdeal.Rnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Loads and stores of a memref held whole -/

section Rules
variable (c : Dev nD) {s : Shape} {e : EltTy}

/-- A load through a rectangle of a memref held at `X` reads `X` there. -/
theorem wp_load_owns {Q : PUnit → sProp 𝕄} {m : Memref sig .tc .vmem s e} {r : Rect s} {hl : m.view.LoadsAt r.toLoadRect}
    {k : (r.shape.Idx → Elt F e) → BodyProg F} (X : s.Idx → Elt F e) :
    (owns (c : Thread nD τ) m fullShare X : sProp 𝕄)
      ⊢ iprop((owns (c : Thread nD τ) m fullShare X -∗ wp frame (wpE (defs₀ (F := F)) Variants.none (c : Thread nD τ) none) Set.univ (k (View.ld X r)) Q)
        -∗ wp frame (wpE (defs₀ (F := F)) Variants.none (c : Thread nD τ) none) Set.univ (.op (.load m r.toLoadRect hl) k) Q) := by
  unfold owns
  iintro ⟨%f, %hf, Hm⟩ Hk
  subst hf
  iapply (wp_load_rect Variants.none (c : Thread nD τ) none Set.univ (m := m) (r := r) (S := m.view.set) (m.view.set_slice_subset r)) $$ Hm
  iintro Hm
  iapply Hk
  iexists f
  isplitr; · ipureintro; rfl
  iexact Hm

/-- A store through a rectangle of a memref held at `X` leaves any `Z` that is the payload on the rectangle and `X` off it. -/
theorem wp_store_owns {Q : PUnit → sProp 𝕄} {m : Memref sig .tc .vmem s e} {r : Rect s} {w : r.shape.Idx → Elt F e}
    {hx : (m.access r).Stores Finset.univ} {hm : Finset.univ = Finset.univ ∨ ∀ a, r.stride a = 1}
    {k : PUnit → BodyProg F} (X Z : s.Idx → Elt F e) (hZ : ∀ x, Z (r.emb x) = w x) (hX : ∀ y, y ∉ r.set → Z y = X y) :
    (owns (c : Thread nD τ) m fullShare X : sProp 𝕄)
      ⊢ iprop((owns (c : Thread nD τ) m fullShare Z -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  unfold owns
  iintro ⟨%f, %hf, Hm⟩ Hk
  subst hf
  iapply (wp_store Variants.none (c : Thread nD τ) none Set.univ (m := m) (r := r) (w := w) (Mk := Finset.univ) (hx := hx) (hm := hm) (k := k)
    (S := m.view.set) (f := f) (m.setOn_access_subset r Finset.univ)) $$ Hm
  iintro Hm
  iapply Hk
  iexists ((m.access r).write (Elt F) f w Finset.univ)
  isplitr
  · ipureintro
    funext y
    by_cases hy : y ∈ r.set
    · obtain ⟨x, -, rfl⟩ := Finset.mem_map.mp (r.map_emb_univ ▸ hy)
      rw [hZ]
      exact View.read_slice_write_emb r f w (Finset.mem_univ x)
    · rw [hX y hy]
      exact View.read_slice_write_of_not_mem r f w Finset.univ (r.map_emb_univ ▸ hy)
  iexact Hm

variable {off : Fin s.rank → Nat} {inb : ∀ a, off a + s.size a ≤ s.size a}

/-- A load of the whole memref reads what it holds. -/
theorem wp_load_all {Q : PUnit → sProp 𝕄} {m : Memref sig .tc .vmem s e} {hl : m.view.LoadsAt (Rect.unit off s.size inb).toLoadRect}
    {k : (s.Idx → Elt F e) → BodyProg F} (h : off = fun _ => 0) (X : s.Idx → Elt F e) :
    (owns (c : Thread nD τ) m fullShare X : sProp 𝕄)
      ⊢ iprop((owns (c : Thread nD τ) m fullShare X -∗ wp frame (wpE (defs₀ (F := F)) Variants.none (c : Thread nD τ) none) Set.univ (k X) Q)
        -∗ wp frame (wpE (defs₀ (F := F)) Variants.none (c : Thread nD τ) none) Set.univ (.op (.load m (Rect.unit off s.size inb).toLoadRect hl) k) Q) := by
  have h1 := wp_load_owns c (Q := Q) (m := m) (r := Rect.unit off s.size inb) (hl := hl) (k := k) X
  rwa [View.ld_unit_zero h inb X] at h1

/-- A store over the whole memref leaves its payload. -/
theorem wp_store_all {Q : PUnit → sProp 𝕄} {m : Memref sig .tc .vmem s e} {w : s.Idx → Elt F e}
    {hx : (m.access (Rect.unit off s.size inb)).Stores Finset.univ} {hm : Finset.univ = Finset.univ ∨ ∀ a, (Rect.unit off s.size inb).stride a = 1}
    {k : PUnit → BodyProg F} (h : off = fun _ => 0) (X : s.Idx → Elt F e) :
    (owns (c : Thread nD τ) m fullShare X : sProp 𝕄)
      ⊢ iprop((owns (c : Thread nD τ) m fullShare w -∗ wp frame (wpE (defs₀ (F := F)) Variants.none (c : Thread nD τ) none) Set.univ (k ⟨⟩) Q)
        -∗ wp frame (wpE (defs₀ (F := F)) Variants.none (c : Thread nD τ) none) Set.univ (.op (.store m (Rect.unit off s.size inb) w Finset.univ hx hm) k) Q) := by
  refine wp_store_owns c (r := Rect.unit off s.size inb) X w (fun x => ?_) (fun y hy => ?_)
  · exact congrFun (View.ld_unit_zero h inb w) x
  · subst h
    refine absurd (Rect.mem_set_unit.mpr fun a => ?_) hy
    exact ⟨Nat.zero_le _, by simpa using (y a).isLt⟩

end Rules

/-- Zero offsets, spelt as a list of two or of three. -/
theorem off2 : (![0, 0] : Fin 2 → Nat) = fun _ => 0 := by decide
@[inherit_doc off2]
theorem off3 : (![0, 0, 0] : Fin 3 → Nat) = fun _ => 0 := by decide

/-! ## What the loops compute -/

/-- Row `k` of a sixty-four row buffer (the row of `k` modulo sixty-four, so that every number names one). -/
def rowAt (B : Vec F S64x64x512 .bf16) (k : Nat) : Vec F S1x64x512 .bf16 :=
  View.ld B (row (k % 64) (Nat.mod_lt k (by decide)))

/-- Below sixty-four it is the row of that number. -/
theorem rowAt_eq (B : Vec F S64x64x512 .bf16) (k : Nat) (hk : k < 64) : View.ld B (row k hk) = rowAt B k := by
  have : ∀ k' (h' : k' < 64), k' = k → View.ld B (row k hk) = View.ld B (row k' h') := by rintro k' h' rfl; rfl
  exact this _ _ (Nat.mod_eq_of_lt hk)

/-- The first layer's state after `k` rows of pre-activations `B`, from `h`. -/
def seqA (w : Vec F S512x512 .bf16) (B : Vec F S64x64x512 .bf16) (h : FVec F S64x512 .bf16) : Nat → FVec F S64x512 .bf16
  | 0 => h
  | k + 1 => stepA w (rowAt B k) (seqA w B h k)

/-- The second layer's state after `k` rows, held at zero where the bit is not set. -/
def seqB (b : BitVec 1) (w : Vec F S512x512 .bf16) (B : Vec F S64x64x512 .bf16) (h : FVec F S64x512 .bf16) : Nat → FVec F S64x512 .bf16
  | 0 => h
  | k + 1 => stepB b w (rowAt B k) (seqB b w B h k)

/-- The buffer of first-layer states once its first `k` rows are written, over what it held before. -/
def hist (w : Vec F S512x512 .bf16) (B : Vec F S64x64x512 .bf16) (h : FVec F S64x512 .bf16) (X : Vec F S64x64x512 .bf16) (k : Nat) :
    Vec F S64x64x512 .bf16 := fun y =>
  if (y 0).val < k then asRow (seqA w B h ((y 0).val + 1)) (fun | 0 => (0 : Fin 1) | 1 => y 1 | 2 => y 2) else X y

/-- Storing the next state at row `k` takes the buffer from `k` rows written to `k + 1`. -/
theorem hist_succ_on (w : Vec F S512x512 .bf16) (B : Vec F S64x64x512 .bf16) (h : FVec F S64x512 .bf16) (X : Vec F S64x64x512 .bf16)
    (k : Nat) (hk : k < 64) (x : (row k hk).shape.Idx) :
    hist w B h X (k + 1) ((row k hk).emb x) = asRow (seqA w B h (k + 1)) x := by
  have h0 : (((row k hk).emb x) 0).val = k := by
    show k + 1 * (x 0).val = k
    have : (x 0).val < 1 := (x 0).isLt
    omega
  unfold hist
  rw [if_pos (by omega), h0]
  congr 1
  funext a
  match a with
  | 0 => exact (Fin.eq_zero _).symm
  | 1 => exact Fin.ext (show 0 + 1 * (x 1).val = (x 1).val by omega)
  | 2 => exact Fin.ext (show 0 + 1 * (x 2).val = (x 2).val by omega)

/-- One more step leaves every other row as it was. -/
theorem hist_succ_off (w : Vec F S512x512 .bf16) (B : Vec F S64x64x512 .bf16) (h : FVec F S64x512 .bf16) (X : Vec F S64x64x512 .bf16)
    (k : Nat) (hk : k < 64) (y : S64x64x512.Idx) (hy : y ∉ (row k hk).set) : hist w B h X (k + 1) y = hist w B h X k y := by
  have h0 : (y 0).val ≠ k := fun e => hy (Rect.mem_set_unit.mpr fun a => by
    match a with
    | 0 => exact ⟨e.ge, by show (y 0).val < k + 1; omega⟩
    | 1 => exact ⟨Nat.zero_le _, by show (y 1).val < 0 + 64; have : (y 1).val < 64 := (y 1).isLt; omega⟩
    | 2 => exact ⟨Nat.zero_le _, by show (y 2).val < 0 + 512; have : (y 2).val < 512 := (y 2).isLt; omega⟩)
  unfold hist
  by_cases hlt : (y 0).val < k
  · rw [if_pos hlt, if_pos (by omega)]
  · rw [if_neg hlt, if_neg (by omega)]

section Loops
variable (c : Dev nD) (i : grid0.Coords)
variable (arg4 : Memref sig .tc .vmem S512x512 .bf16) (arg6 : Memref sig .tc .vmem S512x512 .bf16)
  (arg14 : Memref sig .tc .vmem S64x64x512 .bf16) (arg15 : Memref sig .tc .vmem S64x64x512 .bf16)
  (arg16 : Memref sig .tc .vmem S64x64x512 .bf16) (harg16 : arg16.IsWhole)
variable (w v : Vec F S512x512 .bf16) (A B X : Vec F S64x64x512 .bf16) (h₁ h₂ : FVec F S64x512 .bf16)

/-- The two-layer loop's remaining `n` steps, from row `k` with the states as `k` steps leave them. -/
theorem mainLoop_sound {Q : PUnit → sProp 𝕄} (K : FVec F S64x512 .bf16 → FVec F S64x512 .bf16 → BodyProg F) :
    ∀ (n k : Nat) (hkn : k + n ≤ 64) (_ : k + n = 64),
    (iprop(owns (c : Thread nD τ) arg4 fullShare w ∗ owns (c : Thread nD τ) arg6 fullShare v
        ∗ owns (c : Thread nD τ) arg14 fullShare A ∗ owns (c : Thread nD τ) arg15 fullShare B
        ∗ owns (c : Thread nD τ) arg16 fullShare (hist w A h₁ X k)
        ∗ (owns (c : Thread nD τ) arg4 fullShare w -∗ owns (c : Thread nD τ) arg6 fullShare v
            -∗ owns (c : Thread nD τ) arg14 fullShare A -∗ owns (c : Thread nD τ) arg15 fullShare B
            -∗ owns (c : Thread nD τ) arg16 fullShare (hist w A h₁ X 64)
            -∗ wp frame (wpE (defs₀ (F := F)) Variants.none (c : Thread nD τ) none) Set.univ (K (seqA w A h₁ 64) (seqB (live i) v B h₂ 64)) Q)) : sProp 𝕄)
      ⊢ wp frame (wpE (defs₀ (F := F)) Variants.none (c : Thread nD τ) none) Set.univ
          (mainLoop i arg4 arg6 arg14 arg15 arg16 harg16 n k hkn (seqA w A h₁ k) (seqB (live i) v B h₂ k) K) Q := by
  intro n
  induction n with
  | zero =>
    intro k hkn e
    obtain rfl : k = 64 := by omega
    rw [mainLoop]
    iintro ⟨H4, H6, H14, H15, H16, Hk⟩
    iapply Hk $$ H4 H6 H14 H15 H16
  | succ n ih =>
    intro k hkn e
    have hk : k < 64 := by omega
    rw [mainLoop]
    iintro ⟨H4, H6, H14, H15, H16, Hk⟩
    iapply (wp_load_owns c A) $$ H14; iintro H14
    iapply (wp_load_all c off2 w) $$ H4; iintro H4
    iapply (wp_load_owns c B) $$ H15; iintro H15
    iapply (wp_load_all c off2 v) $$ H6; iintro H6
    iapply (wp_load_owns c (hist w A h₁ X k)) $$ H16; iintro H16
    rw [rowAt_eq A k hk, rowAt_eq B k hk]
    iapply (wp_store_owns c (hist w A h₁ X k) (hist w A h₁ X (k + 1)) (fun x => hist_succ_on w A h₁ X k hk x)
      (fun y hy => hist_succ_off w A h₁ X k hk y hy)) $$ H16
    iintro H16
    iapply (ih (k + 1) (by omega) (by omega))
    isplitl [H4]; · iexact H4
    isplitl [H6]; · iexact H6
    isplitl [H14]; · iexact H14
    isplitl [H15]; · iexact H15
    isplitl [H16]; · iexact H16
    iexact Hk

/-- The last point's loop's remaining `n` steps. -/
theorem tailLoop_sound {Q : PUnit → sProp 𝕄} (K : FVec F S64x512 .bf16 → BodyProg F) :
    ∀ (n k : Nat) (hkn : k + n ≤ 64) (_ : k + n = 64),
    (iprop(owns (c : Thread nD τ) arg6 fullShare v ∗ owns (c : Thread nD τ) arg15 fullShare B
        ∗ (owns (c : Thread nD τ) arg6 fullShare v -∗ owns (c : Thread nD τ) arg15 fullShare B
            -∗ wp frame (wpE (defs₀ (F := F)) Variants.none (c : Thread nD τ) none) Set.univ (K (seqA v B h₂ 64)) Q)) : sProp 𝕄)
      ⊢ wp frame (wpE (defs₀ (F := F)) Variants.none (c : Thread nD τ) none) Set.univ
          (tailLoop arg6 arg15 n k hkn (seqA v B h₂ k) K) Q := by
  intro n
  induction n with
  | zero =>
    intro k hkn e
    obtain rfl : k = 64 := by omega
    rw [tailLoop]
    iintro ⟨H6, H15, Hk⟩
    iapply Hk $$ H6 H15
  | succ n ih =>
    intro k hkn e
    have hk : k < 64 := by omega
    rw [tailLoop]
    iintro ⟨H6, H15, Hk⟩
    iapply (wp_load_owns c B) $$ H15; iintro H15
    iapply (wp_load_all c off2 v) $$ H6; iintro H6
    rw [rowAt_eq B k hk]
    iapply (ih (k + 1) (by omega) (by omega))
    isplitl [H6]; · iexact H6
    isplitl [H15]; · iexact H15
    iexact Hk

end Loops

end Cert.KernelIdeal.Rnn

end
-- ==== Proof.BodyRun.lean ====
/- The kernel's body run at one grid point, from any contents of the buffers it is handed. -/
module

public import proofs.«01_k».proof.Proof.Steps

@[expose] public section

noncomputable section

namespace Cert.KernelIdeal.Rnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The buffer of first-layer states once all its rows are written. -/
def histAll (w : Vec F S512x512 .bf16) (B : Vec F S64x64x512 .bf16) (h : FVec F S64x512 .bf16) : Vec F S64x64x512 .bf16 := fun y =>
  asRow (seqA w B h ((y 0).val + 1)) (fun | 0 => (0 : Fin 1) | 1 => y 1 | 2 => y 2)

/-- After sixty-four steps every row is written. -/
theorem hist_all (w : Vec F S512x512 .bf16) (B : Vec F S64x64x512 .bf16) (h : FVec F S64x512 .bf16) (X : Vec F S64x64x512 .bf16) :
    hist w B h X 64 = histAll w B h :=
  funext fun y => if_pos (show (y 0).val < 64 from (y 0).isLt)

section
variable (c : Dev nD) (i : grid0.Coords)
variable (arg2 : Memref sig .tc .vmem S64x64x256 .bf16) (arg3 : Memref sig .tc .vmem S256x512 .bf16) (arg4 : Memref sig .tc .vmem S512x512 .bf16) (arg5 : Memref sig .tc .vmem S512x512 .bf16) (arg6 : Memref sig .tc .vmem S512x512 .bf16) (arg7 : Memref sig .tc .vmem S1x512 .f32) (arg8 : Memref sig .tc .vmem S1x512 .f32) (arg9 : Memref sig .tc .vmem S512x2 .bf16) (arg10 : Memref sig .tc .vmem S1x2 .f32) (arg11 : Memref sig .tc .vmem S64x2 .f32) (arg12 : Memref sig .tc .vmem S64x512 .bf16) (harg12 : arg12.IsWhole) (arg13 : Memref sig .tc .vmem S64x512 .bf16) (harg13 : arg13.IsWhole) (arg14 : Memref sig .tc .vmem S64x64x512 .bf16) (harg14 : arg14.IsWhole) (arg15 : Memref sig .tc .vmem S64x64x512 .bf16) (harg15 : arg15.IsWhole) (arg16 : Memref sig .tc .vmem S64x64x512 .bf16) (harg16 : arg16.IsWhole)
variable (x : Vec F S64x64x256 .bf16) (w0 : Vec F S256x512 .bf16) (w : Vec F S512x512 .bf16) (u : Vec F S512x512 .bf16) (v : Vec F S512x512 .bf16) (b0 : Vec F S1x512 .f32) (b1 : Vec F S1x512 .f32) (fw : Vec F S512x2 .bf16) (fb : Vec F S1x2 .f32) (O : Vec F S64x2 .f32) (s₁ : Vec F S64x512 .bf16) (s₂ : Vec F S64x512 .bf16) (D : Vec F S64x64x512 .bf16) (E : Vec F S64x64x512 .bf16) (X : Vec F S64x64x512 .bf16)

/-- The second layer's pre-activations are computed from the states held, and stored. -/
theorem storePreB_sound {Q : PUnit → sProp 𝕄} (K : BodyProg F) :
    (iprop(owns (c : Thread nD τ) arg5 fullShare u
        ∗ owns (c : Thread nD τ) arg8 fullShare b1
        ∗ owns (c : Thread nD τ) arg15 fullShare E
        ∗ owns (c : Thread nD τ) arg16 fullShare X
        ∗ (owns (c : Thread nD τ) arg5 fullShare u -∗ owns (c : Thread nD τ) arg8 fullShare b1 -∗ owns (c : Thread nD τ) arg15 fullShare (preB X u b1) -∗ owns (c : Thread nD τ) arg16 fullShare X -∗ wp frame (wpE (defs₀ (F := F)) Variants.none (c : Thread nD τ) none) Set.univ K Q)) : sProp 𝕄)
      ⊢ wp frame (wpE (defs₀ (F := F)) Variants.none (c : Thread nD τ) none) Set.univ (storePreB arg5 arg8 arg15 harg15 arg16 K) Q := by
  unfold storePreB
  iintro ⟨H5, H8, H15, H16, Hk⟩
  iapply (wp_load_all c off3 X) $$ H16; iintro H16
  iapply (wp_load_all c off2 u) $$ H5; iintro H5
  iapply (wp_load_all c off2 b1) $$ H8; iintro H8
  iapply (wp_load_all c off3 E) $$ H15; iintro H15
  iapply (wp_store_all c off3 E) $$ H15; iintro H15
  iapply Hk $$ H5 H8 H15 H16

/-- The first layer's pre-activations are computed from the block of inputs, and stored. -/
theorem storePreA_sound {Q : PUnit → sProp 𝕄} (K : BodyProg F) :
    (iprop(owns (c : Thread nD τ) arg2 fullShare x
        ∗ owns (c : Thread nD τ) arg3 fullShare w0
        ∗ owns (c : Thread nD τ) arg7 fullShare b0
        ∗ owns (c : Thread nD τ) arg14 fullShare D
        ∗ (owns (c : Thread nD τ) arg2 fullShare x -∗ owns (c : Thread nD τ) arg3 fullShare w0 -∗ owns (c : Thread nD τ) arg7 fullShare b0 -∗ owns (c : Thread nD τ) arg14 fullShare (preA x w0 b0) -∗ wp frame (wpE (defs₀ (F := F)) Variants.none (c : Thread nD τ) none) Set.univ K Q)) : sProp 𝕄)
      ⊢ wp frame (wpE (defs₀ (F := F)) Variants.none (c : Thread nD τ) none) Set.univ (storePreA arg2 arg3 arg7 arg14 harg14 K) Q := by
  unfold storePreA loadPreA
  iintro ⟨H2, H3, H7, H14, Hk⟩
  iapply (wp_load_all c off3 x) $$ H2; iintro H2
  iapply (wp_load_all c off2 w0) $$ H3; iintro H3
  iapply (wp_load_all c off2 b0) $$ H7; iintro H7
  iapply (wp_load_all c off3 D) $$ H14; iintro H14
  iapply (wp_store_all c off3 D) $$ H14; iintro H14
  iapply Hk $$ H2 H3 H7 H14

/-- A state cast to its own shape is itself. -/
theorem castState (h : FVec F S64x512 .bf16) : shapeCast S64x512 h shapeCasts_S64x512_S64x512 = h := shapeCast_self _ _

/-- The body after its start, from states `s₁` and `s₂`. -/
theorem midPart_sound {Q : PUnit → sProp 𝕄} (K : FVec F S64x512 .bf16 → BodyProg F) :
    (iprop(owns (c : Thread nD τ) arg2 fullShare x
        ∗ owns (c : Thread nD τ) arg3 fullShare w0
        ∗ owns (c : Thread nD τ) arg4 fullShare w
        ∗ owns (c : Thread nD τ) arg5 fullShare u
        ∗ owns (c : Thread nD τ) arg6 fullShare v
        ∗ owns (c : Thread nD τ) arg7 fullShare b0
        ∗ owns (c : Thread nD τ) arg8 fullShare b1
        ∗ owns (c : Thread nD τ) arg12 fullShare s₁
        ∗ owns (c : Thread nD τ) arg13 fullShare s₂
        ∗ owns (c : Thread nD τ) arg14 fullShare D
        ∗ owns (c : Thread nD τ) arg15 fullShare E
        ∗ owns (c : Thread nD τ) arg16 fullShare X
        ∗ (iprop(owns (c : Thread nD τ) arg2 fullShare x
            ∗ owns (c : Thread nD τ) arg3 fullShare w0
            ∗ owns (c : Thread nD τ) arg4 fullShare w
            ∗ owns (c : Thread nD τ) arg5 fullShare u
            ∗ owns (c : Thread nD τ) arg6 fullShare v
            ∗ owns (c : Thread nD τ) arg7 fullShare b0
            ∗ owns (c : Thread nD τ) arg8 fullShare b1
            ∗ owns (c : Thread nD τ) arg12 fullShare (seqA w (preA x w0 b0) s₁ 64)
            ∗ owns (c : Thread nD τ) arg13 fullShare (seqB (live i) v (preB X u b1) s₂ 64)
            ∗ owns (c : Thread nD τ) arg14 fullShare (preA x w0 b0)
            ∗ owns (c : Thread nD τ) arg15 fullShare (preB X u b1)
            ∗ owns (c : Thread nD τ) arg16 fullShare (histAll w (preA x w0 b0) s₁))
          -∗ wp frame (wpE (defs₀ (F := F)) Variants.none (c : Thread nD τ) none) Set.univ (K (seqB (live i) v (preB X u b1) s₂ 64)) Q)) : sProp 𝕄)
      ⊢ wp frame (wpE (defs₀ (F := F)) Variants.none (c : Thread nD τ) none) Set.univ (midPart i arg2 arg3 arg4 arg5 arg6 arg7 arg8 arg12 harg12 arg13 harg13 arg14 harg14 arg15 harg15 arg16 harg16 K) Q := by
  unfold midPart
  iintro ⟨H2, H3, H4, H5, H6, H7, H8, H12, H13, H14, H15, H16, Hk⟩
  iapply (storePreB_sound c arg5 arg8 arg15 harg15 arg16 u b1 E X)
  isplitl [H5]; · iexact H5
  isplitl [H8]; · iexact H8
  isplitl [H15]; · iexact H15
  isplitl [H16]; · iexact H16
  iintro H5 H8 H15 H16
  iapply (storePreA_sound c arg2 arg3 arg7 arg14 harg14 x w0 b0 D)
  isplitl [H2]; · iexact H2
  isplitl [H3]; · iexact H3
  isplitl [H7]; · iexact H7
  isplitl [H14]; · iexact H14
  iintro H2 H3 H7 H14
  iapply (wp_load_all c off2 s₁) $$ H12; iintro H12
  iapply (wp_load_all c off2 s₂) $$ H13; iintro H13
  have e0 : hist w (preA x w0 b0) s₁ X 0 = X := funext fun y => if_neg (Nat.not_lt_zero _)
  iapply (mainLoop_sound c i arg4 arg6 arg14 arg15 arg16 harg16 w v (preA x w0 b0) (preB X u b1) X s₁ s₂ _ 64 0 (by omega) (by omega))
  rw [e0, hist_all]
  isplitl [H4]; · iexact H4
  isplitl [H6]; · iexact H6
  isplitl [H14]; · iexact H14
  isplitl [H15]; · iexact H15
  isplitl [H16]; · iexact H16
  iintro H4 H6 H14 H15 H16
  iapply (wp_load_all c off2 s₁) $$ H12; iintro H12
  iapply (wp_store_all c off2 s₁) $$ H12; iintro H12
  iapply (wp_load_all c off2 s₂) $$ H13; iintro H13
  iapply (wp_store_all c off2 s₂) $$ H13; iintro H13
  rw [castState, castState]
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H14]; · iexact H14
  isplitl [H15]; · iexact H15
  iexact H16

/-- The last point's end: the last block's second layer, from the states held and `h`, and the output layer. -/
theorem lastPart_sound {Q : PUnit → sProp 𝕄} (h : FVec F S64x512 .bf16) :
    (iprop(owns (c : Thread nD τ) arg5 fullShare u
        ∗ owns (c : Thread nD τ) arg6 fullShare v
        ∗ owns (c : Thread nD τ) arg8 fullShare b1
        ∗ owns (c : Thread nD τ) arg9 fullShare fw
        ∗ owns (c : Thread nD τ) arg10 fullShare fb
        ∗ owns (c : Thread nD τ) arg11 fullShare O
        ∗ owns (c : Thread nD τ) arg15 fullShare E
        ∗ owns (c : Thread nD τ) arg16 fullShare X
        ∗ (iprop(owns (c : Thread nD τ) arg5 fullShare u
            ∗ owns (c : Thread nD τ) arg6 fullShare v
            ∗ owns (c : Thread nD τ) arg8 fullShare b1
            ∗ owns (c : Thread nD τ) arg9 fullShare fw
            ∗ owns (c : Thread nD τ) arg10 fullShare fb
            ∗ owns (c : Thread nD τ) arg11 fullShare (head fw fb (seqA v (preB X u b1) h 64))
            ∗ owns (c : Thread nD τ) arg15 fullShare (preB X u b1)
            ∗ owns (c : Thread nD τ) arg16 fullShare X) -∗ Q ⟨⟩)) : sProp 𝕄)
      ⊢ wp frame (wpE (defs₀ (F := F)) Variants.none (c : Thread nD τ) none) Set.univ (lastPart arg5 arg6 arg8 arg9 arg10 arg11 arg15 harg15 arg16 h) Q := by
  unfold lastPart
  iintro ⟨H5, H6, H8, H9, H10, H11, H15, H16, Hk⟩
  iapply (storePreB_sound c arg5 arg8 arg15 harg15 arg16 u b1 E X)
  isplitl [H5]; · iexact H5
  isplitl [H8]; · iexact H8
  isplitl [H15]; · iexact H15
  isplitl [H16]; · iexact H16
  iintro H5 H8 H15 H16
  iapply (tailLoop_sound c arg6 arg15 v (preB X u b1) h _ 64 0 (by omega) (by omega))
  isplitl [H6]; · iexact H6
  isplitl [H15]; · iexact H15
  iintro H6 H15
  iapply (wp_load_all c off2 fw) $$ H9; iintro H9
  iapply (wp_load_all c off2 fb) $$ H10; iintro H10
  iapply (wp_load_all c off2 O) $$ H11; iintro H11
  iapply (wp_store_all c off2 O) $$ H11; iintro H11
  rw [wp_ret]; imodintro
  iapply Hk
  isplitl [H5]; · iexact H5
  isplitl [H6]; · iexact H6
  isplitl [H8]; · iexact H8
  isplitl [H9]; · iexact H9
  isplitl [H10]; · iexact H10
  isplitl [H11]; · iexact H11
  isplitl [H15]; · iexact H15
  iexact H16

/-- What the states held at the body's start count as: zero at the first grid point. -/
def startOf (s : FVec F S64x512 .bf16) : FVec F S64x512 .bf16 := if first i = 1#1 then zeroState else s

/-- The body's start: the states zero at the first grid point, and left otherwise. -/
theorem withInit_sound {Q : PUnit → sProp 𝕄} (K : BodyProg F) :
    (iprop(owns (c : Thread nD τ) arg12 fullShare s₁
        ∗ owns (c : Thread nD τ) arg13 fullShare s₂
        ∗ (owns (c : Thread nD τ) arg12 fullShare (startOf i s₁) -∗ owns (c : Thread nD τ) arg13 fullShare (startOf i s₂) -∗ wp frame (wpE (defs₀ (F := F)) Variants.none (c : Thread nD τ) none) Set.univ K Q)) : sProp 𝕄)
      ⊢ wp frame (wpE (defs₀ (F := F)) Variants.none (c : Thread nD τ) none) Set.univ (withInit i arg12 harg12 arg13 harg13 K) Q := by
  unfold withInit startOf
  iintro ⟨H12, H13, Hk⟩
  by_cases hf : first i = 1#1
  · rw [dif_pos hf, if_pos hf, if_pos hf]
    unfold initStates
    iapply (wp_load_all c off2 s₁) $$ H12; iintro H12
    iapply (wp_store_all c off2 s₁) $$ H12; iintro H12
    iapply (wp_load_all c off2 s₂) $$ H13; iintro H13
    iapply (wp_store_all c off2 s₂) $$ H13; iintro H13
    iapply Hk $$ H12 H13
  · rw [dif_neg hf, if_neg hf, if_neg hf]
    iapply Hk $$ H12 H13

/-- The second layer's state the body leaves. -/
def out13 : FVec F S64x512 .bf16 := seqB (live i) v (preB X u b1) (startOf i s₂) 64
/-- The states of the first layer the body leaves, row by row. -/
def out16 : Vec F S64x64x512 .bf16 := histAll w (preA x w0 b0) (startOf i s₁)
/-- What the body leaves in the output at the last point. -/
def out11 : FVec F S64x2 .f32 := head fw fb (seqA v (preB (out16 i x w0 w b0 s₁) u b1) (out13 i u v b1 s₂ X) 64)

/-- The printed body at one grid point. -/
theorem body_sound {Q : PUnit → sProp 𝕄} (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) :
    (iprop(owns (c : Thread nD τ) arg2 fullShare x
        ∗ owns (c : Thread nD τ) arg3 fullShare w0
        ∗ owns (c : Thread nD τ) arg4 fullShare w
        ∗ owns (c : Thread nD τ) arg5 fullShare u
        ∗ owns (c : Thread nD τ) arg6 fullShare v
        ∗ owns (c : Thread nD τ) arg7 fullShare b0
        ∗ owns (c : Thread nD τ) arg8 fullShare b1
        ∗ owns (c : Thread nD τ) arg9 fullShare fw
        ∗ owns (c : Thread nD τ) arg10 fullShare fb
        ∗ owns (c : Thread nD τ) arg11 fullShare O
        ∗ owns (c : Thread nD τ) arg12 fullShare s₁
        ∗ owns (c : Thread nD τ) arg13 fullShare s₂
        ∗ owns (c : Thread nD τ) arg14 fullShare D
        ∗ owns (c : Thread nD τ) arg15 fullShare E
        ∗ owns (c : Thread nD τ) arg16 fullShare X
        ∗ (iprop(owns (c : Thread nD τ) arg2 fullShare x
            ∗ owns (c : Thread nD τ) arg3 fullShare w0
            ∗ owns (c : Thread nD τ) arg4 fullShare w
            ∗ owns (c : Thread nD τ) arg5 fullShare u
            ∗ owns (c : Thread nD τ) arg6 fullShare v
            ∗ owns (c : Thread nD τ) arg7 fullShare b0
            ∗ owns (c : Thread nD τ) arg8 fullShare b1
            ∗ owns (c : Thread nD τ) arg9 fullShare fw
            ∗ owns (c : Thread nD τ) arg10 fullShare fb
            ∗ owns (c : Thread nD τ) arg11 fullShare (if k0_cond2 i = 1#1 then out11 i x w0 w u v b0 b1 fw fb s₁ s₂ X else O)
            ∗ owns (c : Thread nD τ) arg12 fullShare (seqA w (preA x w0 b0) (startOf i s₁) 64)
            ∗ owns (c : Thread nD τ) arg13 fullShare (out13 i u v b1 s₂ X)
            ∗ owns (c : Thread nD τ) arg14 fullShare (preA x w0 b0)
            ∗ (∃ E, owns (c : Thread nD τ) arg15 fullShare E)
            ∗ owns (c : Thread nD τ) arg16 fullShare (out16 i x w0 w b0 s₁))
          -∗ Q ⟨⟩)) : sProp 𝕄)
      ⊢ wp frame (wpE (defs₀ (F := F)) Variants.none (c : Thread nD τ) none) Set.univ (cc0__rnn_body i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [body_eq_loopBody]
  unfold loopBody
  iintro ⟨H2, H3, H4, H5, H6, H7, H8, H9, H10, H11, H12, H13, H14, H15, H16, Hk⟩
  iapply (withInit_sound c i arg12 harg12 arg13 harg13 s₁ s₂)
  isplitl [H12]; · iexact H12
  isplitl [H13]; · iexact H13
  iintro H12 H13
  iapply (midPart_sound c i arg2 arg3 arg4 arg5 arg6 arg7 arg8 arg12 harg12 arg13 harg13 arg14 harg14 arg15 harg15 arg16 harg16
    x w0 w u v b0 b1 (startOf i s₁) (startOf i s₂) D E X)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H13]; · iexact H13
  isplitl [H14]; · iexact H14
  isplitl [H15]; · iexact H15
  isplitl [H16]; · iexact H16
  iintro ⟨H2, H3, H4, H5, H6, H7, H8, H12, H13, H14, H15, H16⟩
  by_cases hl : k0_cond2 i = 1#1
  · rw [dif_pos hl, if_pos hl]
    iapply (lastPart_sound c arg5 arg6 arg8 arg9 arg10 arg11 arg15 harg15 arg16 u v b1 fw fb O (preB X u b1) (out16 i x w0 w b0 s₁))
    isplitl [H5]; · iexact H5
    isplitl [H6]; · iexact H6
    isplitl [H8]; · iexact H8
    isplitl [H9]; · iexact H9
    isplitl [H10]; · iexact H10
    isplitl [H11]; · iexact H11
    isplitl [H15]; · iexact H15
    isplitl [H16]; · iexact H16
    iintro ⟨H5, H6, H8, H9, H10, H11, H15, H16⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexact H16
  · rw [dif_neg hl, if_neg hl, wp_ret]
    imodintro
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    iexact H16

end

end Cert.KernelIdeal.Rnn

end
-- ==== Proof.Run.lean ====
/- The launch: what each grid point carries to the next, the body's obligation at every point, and the run of @main. -/
module

public import proofs.«01_k».proof.Proof.BodyRun

@[expose] public section

noncomputable section

namespace Cert.KernelIdeal.Rnn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The grid's points -/

/-- The first point is the one whose first-point bit is set. -/
theorem first_iff : ∀ t : Fin grid0.N, first (grid0.coords t) = 1#1 ↔ t.val = 0 := by decide +kernel
/-- The second layer is live at every point but the first. -/
theorem live_iff : ∀ t : Fin grid0.N, live (grid0.coords t) = if t.val = 0 then 0#1 else 1#1 := by decide +kernel
/-- The output is stored at the last point alone. -/
theorem last_iff : ∀ t : Fin grid0.N, k0_cond2 (grid0.coords t) = 1#1 ↔ t.val = 15 := by decide +kernel

/-- With the second layer not live its state after a step does not depend on anything. -/
theorem seqB_dead (v v' : Vec F S512x512 .bf16) (A A' : Vec F S64x64x512 .bf16) (h h' : FVec F S64x512 .bf16) (k : Nat) :
    seqB 0#1 v A h (k + 1) = seqB 0#1 v' A' h' (k + 1) := rfl

/-! ## What a point carries to the next -/

section
variable (m : (ℓ : Loc nD τ sig) → Buf (Elt F) ℓ) (ρ : Dev nD → PrngReg) (c : Dev nD)

/-- Window 0's block at a point. -/
def blk0 (t : Fin cfg0.N) : Vec F S64x64x256 .bf16 := iblk m c 0 t
/-- Window 1's block at a point. -/
def blk1 (t : Fin cfg0.N) : Vec F S256x512 .bf16 := iblk m c 1 t
/-- Window 2's block at a point. -/
def blk2 (t : Fin cfg0.N) : Vec F S512x512 .bf16 := iblk m c 2 t
/-- Window 3's block at a point. -/
def blk3 (t : Fin cfg0.N) : Vec F S512x512 .bf16 := iblk m c 3 t
/-- Window 4's block at a point. -/
def blk4 (t : Fin cfg0.N) : Vec F S512x512 .bf16 := iblk m c 4 t
/-- Window 5's block at a point. -/
def blk5 (t : Fin cfg0.N) : Vec F S1x512 .f32 := iblk m c 5 t
/-- Window 6's block at a point. -/
def blk6 (t : Fin cfg0.N) : Vec F S1x512 .f32 := iblk m c 6 t
/-- Window 7's block at a point. -/
def blk7 (t : Fin cfg0.N) : Vec F S512x2 .bf16 := iblk m c 7 t
/-- Window 8's block at a point. -/
def blk8 (t : Fin cfg0.N) : Vec F S1x2 .f32 := iblk m c 8 t

/-- What is carried between points: the two layers' states and the first layer's states of the last chunk. -/
abbrev Carry (F : FTy → Type) : Type := FVec F S64x512 .bf16 × FVec F S64x512 .bf16 × Vec F S64x64x512 .bf16

/-- What a point leaves of what it finds. -/
def next (t : Fin cfg0.N) (s : Carry F) : Carry F :=
  (seqA (blk2 m c t) (preA (blk0 m c t) (blk1 m c t) (blk5 m c t)) (startOf (grid0.coords t) s.1) 64,
    out13 (grid0.coords t) (blk3 m c t) (blk4 m c t) (blk6 m c t) s.2.1 s.2.2,
    out16 (grid0.coords t) (blk0 m c t) (blk1 m c t) (blk2 m c t) (blk5 m c t) s.1)

/-- The first point's carry is the same whatever it finds. -/
theorem next_zero (t : Fin cfg0.N) (h : t.val = 0) (s s' : Carry F) : next m c t s = next m c t s' := by
  have hf : first (grid0.coords t) = 1#1 := (first_iff t).2 h
  have hl : live (grid0.coords t) = 0#1 := (live_iff t).trans (if_pos h)
  unfold next out13 out16 startOf
  rw [if_pos hf, if_pos hf, if_pos hf, hl]
  exact congrArg (fun z => (_, z, _)) (seqB_dead _ _ _ _ _ _ 63)

/-- The carry before point `n`, with no meaning at the first. -/
def carry : Nat → Carry F
  | 0 => (zeroState, zeroState, fun _ => Scalar.ofBits .bf16 0x0000#16)
  | n + 1 => if h : n < cfg0.N then next m c ⟨n, h⟩ (carry n) else carry n

/-- The invariant before point `n`: the carry in its buffers, unless nothing has run, and the rest at anything. -/
def inv (n : Nat) : sProp 𝕄 :=
  iprop(∃ s : Carry F, ⌜n ≠ 0 → s = carry m c n⌝
    ∗ owns (c : Thread nD τ) (Memref.whole cc0_scratch0) fullShare s.1 ∗ owns (c : Thread nD τ) (Memref.whole cc0_scratch1) fullShare s.2.1
    ∗ (∃ D, owns (c : Thread nD τ) (Memref.whole cc0_scratch2) fullShare D) ∗ (∃ E, owns (c : Thread nD τ) (Memref.whole cc0_scratch3) fullShare E)
    ∗ owns (c : Thread nD τ) (Memref.whole cc0_scratch4) fullShare s.2.2 ∗ (∃ r, prngReg c r))

/-- The invariant, nothing having run, is the scratch buffers at anything; and so it is given back. -/
theorem inv_of_any : (Pipeline.ΦA spec0 c : sProp 𝕄) ⊢ inv m c 0 := by
  unfold Pipeline.ΦA inv
  rw [scopedRest0_eq]
  iintro ⟨⟨⟨%f0, H0⟩, ⟨%f1, H1⟩, ⟨%f2, H2⟩, ⟨%f3, H3⟩, ⟨%f4, H4⟩⟩, Hr⟩
  iexists (f0, f1, f4)
  simp only [owns_whole]
  isplitr; · ipureintro; exact fun h => absurd rfl h
  isplitl [H0]; · iexact H0
  isplitl [H1]; · iexact H1
  isplitl [H2]; · iexists f2; iexact H2
  isplitl [H3]; · iexists f3; iexact H3
  isplitl [H4]; · iexact H4
  iexact Hr

/-- The invariant gives the scratch buffers back at whatever they hold. -/
theorem any_of_inv (n : Nat) : inv m c n ⊢ (Pipeline.ΦA spec0 c : sProp 𝕄) := by
  unfold Pipeline.ΦA inv
  rw [scopedRest0_eq]
  simp only [owns_whole]
  iintro ⟨%s, -, H0, H1, ⟨%f2, H2⟩, ⟨%f3, H3⟩, H4, Hr⟩
  isplitr [Hr]
  · isplitl [H0]; · iexists _; iexact H0
    isplitl [H1]; · iexists _; iexact H1
    isplitl [H2]; · iexists _; iexact H2
    isplitl [H3]; · iexists _; iexact H3
    iexists _; iexact H4
  iexact Hr

/-- The output block the last point stores, from what it finds. -/
def result (t : Fin cfg0.N) (s : Carry F) : FVec F S64x2 .f32 :=
  out11 (grid0.coords t) (blk0 m c t) (blk1 m c t) (blk2 m c t) (blk3 m c t) (blk4 m c t) (blk5 m c t) (blk6 m c t) (blk7 m c t) (blk8 m c t) s.1 s.2.1 s.2.2
end

section
variable (m : (ℓ : Loc nD τ sig) → Buf (Elt F) ℓ) (ρ : Dev nD → PrngReg)

/-- The proof data: the arrays as the region finds them, each input left in place, the output at what the last point stores. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => iblk m c 5 t | 6 => iblk m c 6 t | 7 => iblk m c 7 t | 8 => iblk m c 8 t
    | 9 => result m c t (carry m c t.val)
    | ⟨_ + 10, h⟩ => absurd h (Nat.not_lt.2 (Nat.le_add_left _ _))
  Φ t := inv m c t.val
  q _ := fullShare
  owed _ := 0

/-- A window's array starts at what the region finds in it. -/
theorem A_eq (c : Dev nD) (w : Fin cfg0.W) : (dats m 0 c).A w = V m c (Pipeline.arrRef spec0 w) := by dsimp only [dats]

/-- A window's buffer as the body finds it. -/
def found (c : Dev nD) (w : Fin cfg0.W) (t : Fin cfg0.N) : sProp 𝕄 :=
  iprop(∃ d, owns (c : Thread nD τ) ((cfg0.win w).stage (cfg0.slots t w)) fullShare ((dats m 0 c).before w t d))

/-- The output's buffer as a point leaves it: stored at the last point, and elsewhere as found. -/
def outPost (c : Dev nD) (t : Fin cfg0.N) : sProp 𝕄 :=
  match cfg0.idle 9 (cfg0.grid.coords t) with
  | true => match (cfg0.win 9).flush t with
    | false => found m c 9 t
    | true => owns (c : Thread nD τ) (st0_9 t) fullShare ((dats m 0 c).after 9 t)
  | false => owns (c : Thread nD τ) (st0_9 t) fullShare ((dats m 0 c).after 9 t)

/-- The output's buffer with the last point's result stored in it is the output's buffer as that point leaves it. -/
theorem outPost_intro (c : Dev nD) (t : Fin cfg0.N) (d) (s : Carry F) (hs : t.val ≠ 0 → s = carry m c t.val) :
    owns (c : Thread nD τ) (st0_9 t) fullShare (if k0_cond2 (grid0.coords t) = 1#1 then result m c t s else (dats m 0 c).before 9 t d)
      ⊢ outPost m c t := by
  unfold outPost
  by_cases h : k0_cond2 (grid0.coords t) = 1#1
  · have hi : cfg0.idle 9 (cfg0.grid.coords t) = false := show (!(k0_cond2 (grid0.coords t) == 1#1)) = false by rw [h]; rfl
    have ht : t.val ≠ 0 := by rw [(last_iff t).1 h]; decide
    rw [hi, if_pos h, hs ht]
    exact .rfl
  · have hi : cfg0.idle 9 (cfg0.grid.coords t) = true := show (!(k0_cond2 (grid0.coords t) == 1#1)) = true by rw [beq_false_of_ne h]; rfl
    have hN : t.val < 16 := lt_of_lt_of_eq t.isLt N_0
    have hfl : (cfg0.win 9).flush t = false := Bool.eq_false_iff.2 fun hf => h ((last_iff t).2 (by
      have := (flush0_9 t).1 hf; omega))
    rw [hi, hfl, if_neg h]
    unfold found
    iintro H; iexists d; iexact H

/-- What the body is called with at a point. -/
def bodyPre (c : Dev nD) (t : Fin cfg0.N) : sProp 𝕄 :=
  iprop((dats m 0 c).Φ t.castSucc ∗ (dats m 0 c).owesAt () t.castSucc
    ∗ owns (c : Thread nD τ) (st0_0 t) fullShare (iblk m c 0 t) ∗
    owns (c : Thread nD τ) (st0_1 t) fullShare (iblk m c 1 t) ∗
    owns (c : Thread nD τ) (st0_2 t) fullShare (iblk m c 2 t) ∗
    owns (c : Thread nD τ) (st0_3 t) fullShare (iblk m c 3 t) ∗
    owns (c : Thread nD τ) (st0_4 t) fullShare (iblk m c 4 t) ∗
    owns (c : Thread nD τ) (st0_5 t) fullShare (iblk m c 5 t) ∗
    owns (c : Thread nD τ) (st0_6 t) fullShare (iblk m c 6 t) ∗
    owns (c : Thread nD τ) (st0_7 t) fullShare (iblk m c 7 t) ∗
    owns (c : Thread nD τ) (st0_8 t) fullShare (iblk m c 8 t) ∗
    found m c 9 t)
/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗
    owns (c : Thread nD τ) (st0_1 t) fullShare (iblk m c 1 t) ∗
    owns (c : Thread nD τ) (st0_2 t) fullShare (iblk m c 2 t) ∗
    owns (c : Thread nD τ) (st0_3 t) fullShare (iblk m c 3 t) ∗
    owns (c : Thread nD τ) (st0_4 t) fullShare (iblk m c 4 t) ∗
    owns (c : Thread nD τ) (st0_5 t) fullShare (iblk m c 5 t) ∗
    owns (c : Thread nD τ) (st0_6 t) fullShare (iblk m c 6 t) ∗
    owns (c : Thread nD τ) (st0_7 t) fullShare (iblk m c 7 t) ∗
    owns (c : Thread nD τ) (st0_8 t) fullShare (iblk m c 8 t) ∗
    outPost m c t)

/-- The invariant goes from a point to the next. -/
theorem carry_succ (c : Dev nD) (t : Fin cfg0.N) (s : Carry F) (hs : t.val ≠ 0 → s = carry m c t.val) :
    next m c t s = carry m c (t.val + 1) := by
  have e : carry m c (t.val + 1) = next m c t (carry m c t.val) := dif_pos t.isLt
  rw [e]
  by_cases h : t.val = 0
  · exact next_zero m c t h _ _
  · rw [hs h]

/-- The body at a point keeps what the pipeline asks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.castSucc = inv m c t.val from rfl, show (dats m 0 c).Φ t.succ = inv m c (t.val + 1) from rfl]
  unfold inv found
  iintro ⟨⟨%s, %hs, H12, H13, ⟨%D, H14⟩, ⟨%E, H15⟩, H16, Hr⟩, HO, H2, H3, H4, H5, H6, H7, H8, H9, H10, ⟨%d9, H11⟩⟩
  iapply (body_sound c (grid0.coords t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) (win0_9.stage (cfg0.slots t 9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (blk0 m c t) (blk1 m c t) (blk2 m c t) (blk3 m c t) (blk4 m c t) (blk5 m c t) (blk6 m c t) (blk7 m c t) (blk8 m c t) ((dats m 0 c).before 9 t d9) s.1 s.2.1 D E s.2.2 (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)))
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, ⟨%E', H15⟩, H16⟩
  isplitl [H12 H13 H14 H15 H16 Hr]
  · iexists next m c t s
    isplitr; · ipureintro; exact fun _ => carry_succ m c t s hs
    isplitl [H12]; · iexact H12
    isplitl [H13]; · iexact H13
    isplitl [H14]; · iexists _; iexact H14
    isplitl [H15]; · iexists _; iexact H15
    isplitl [H16]; · iexact H16
    iexact Hr
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iapply (outPost_intro m c t d9 s hs)
  iexact H11

/-- A buffer whose contents before the body are known is held at them. -/
theorem held (c : Dev nD) (w : Fin cfg0.W) (t : Fin cfg0.N) (X) (h : ∀ d, (dats m 0 c).before w t d = X) :
    found m c w t ⊢ owns (c : Thread nD τ) ((cfg0.win w).stage (cfg0.slots t w)) fullShare X := by
  unfold found
  iintro ⟨%d, H⟩; rw [h d]; iexact H

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- Each input window is held at its block when the body is called. -/
theorem held0 (c : Dev nD) (t : Fin cfg0.N) : found m c 0 t ⊢ owns (c : Thread nD τ) (st0_0 t) fullShare (iblk m c 0 t) :=
  held m c 0 t _ (before0_0_of m (dats m 0 c) (A_eq m c 0) (fun _ => rfl) t)
@[inherit_doc held0]
theorem held1 (c : Dev nD) (t : Fin cfg0.N) : found m c 1 t ⊢ owns (c : Thread nD τ) (st0_1 t) fullShare (iblk m c 1 t) :=
  held m c 1 t _ (before0_1_of m (dats m 0 c) (A_eq m c 1) (fun _ => rfl) t)
@[inherit_doc held0]
theorem held2 (c : Dev nD) (t : Fin cfg0.N) : found m c 2 t ⊢ owns (c : Thread nD τ) (st0_2 t) fullShare (iblk m c 2 t) :=
  held m c 2 t _ (before0_2_of m (dats m 0 c) (A_eq m c 2) (fun _ => rfl) t)
@[inherit_doc held0]
theorem held3 (c : Dev nD) (t : Fin cfg0.N) : found m c 3 t ⊢ owns (c : Thread nD τ) (st0_3 t) fullShare (iblk m c 3 t) :=
  held m c 3 t _ (before0_3_of m (dats m 0 c) (A_eq m c 3) (fun _ => rfl) t)
@[inherit_doc held0]
theorem held4 (c : Dev nD) (t : Fin cfg0.N) : found m c 4 t ⊢ owns (c : Thread nD τ) (st0_4 t) fullShare (iblk m c 4 t) :=
  held m c 4 t _ (before0_4_of m (dats m 0 c) (A_eq m c 4) (fun _ => rfl) t)
@[inherit_doc held0]
theorem held5 (c : Dev nD) (t : Fin cfg0.N) : found m c 5 t ⊢ owns (c : Thread nD τ) (st0_5 t) fullShare (iblk m c 5 t) :=
  held m c 5 t _ (before0_5_of m (dats m 0 c) (A_eq m c 5) (fun _ => rfl) t)
@[inherit_doc held0]
theorem held6 (c : Dev nD) (t : Fin cfg0.N) : found m c 6 t ⊢ owns (c : Thread nD τ) (st0_6 t) fullShare (iblk m c 6 t) :=
  held m c 6 t _ (before0_6_of m (dats m 0 c) (A_eq m c 6) (fun _ => rfl) t)
@[inherit_doc held0]
theorem held7 (c : Dev nD) (t : Fin cfg0.N) : found m c 7 t ⊢ owns (c : Thread nD τ) (st0_7 t) fullShare (iblk m c 7 t) :=
  held m c 7 t _ (before0_7_of m (dats m 0 c) (A_eq m c 7) (fun _ => rfl) t)
@[inherit_doc held0]
theorem held8 (c : Dev nD) (t : Fin cfg0.N) : found m c 8 t ⊢ owns (c : Thread nD τ) (st0_8 t) fullShare (iblk m c 8 t) :=
  held m c 8 t _ (before0_8_of m (dats m 0 c) (A_eq m c 8) (fun _ => rfl) t)

/-- What the pipeline hands the body at a point, all windows together, is what the body is called with. -/
theorem bodyPre_of (c : Dev nD) (t : Fin cfg0.N) :
    iprop((dats m 0 c).Φ t.castSucc ∗ (dats m 0 c).owesAt () t.castSucc ∗ bigSep Finset.univ fun w : Fin cfg0.W => found m c w t)
      ⊢ bodyPre m c t := by
  rw [bigSep_W0]
  exact BIClass.sep_mono .rfl (BIClass.sep_mono .rfl ((BIClass.sep_mono (held0 m c t) (BIClass.sep_mono (held1 m c t) (BIClass.sep_mono (held2 m c t) (BIClass.sep_mono (held3 m c t) (BIClass.sep_mono (held4 m c t) (BIClass.sep_mono (held5 m c t) (BIClass.sep_mono (held6 m c t) (BIClass.sep_mono (held7 m c t) (BIClass.sep_mono (held8 m c t) .rfl)))))))))))

/-- The body's obligation at every point. -/
theorem body_obligation (c : Dev nD) :
    BodyObligation (dats (F := F) m 0 c) (defs₀ (F := F)) Variants.none () Set.univ := fun t => by
  rw [defs₀_row]
  refine triple_restated ((bodyPre_of m c t).trans (sound_body m c t)) rfl .rfl fun _ => ?_
  rw [bigSep_W0]
  exact (BIClass.sep_mono .rfl (BIClass.sep_mono .rfl ((BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl .rfl))))))))))))

set_option backward.isDefEq.respectTransparency.types false in
/-- From any memory with zero counters every execution of @main ends, with every array as the proof data says, every other
    buffer as the region found it, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_of_any m c) (hout := fun c => any_of_inv m c _)
end

end Cert.KernelIdeal.Rnn

end
-- ==== Proof.Frames.lean ====
/- The frames of the kernel, read at the extended reals and at the machine's words. -/
module

public import proofs.«01_k».proof.Proof.Run
public import proofs.«01_k».proof.Proof.Gen.Kernel
public import proofs.«01_k».proof.Defs

@[expose] public section

noncomputable section

namespace Cert.KernelIdeal.Rnn

open Idealize.ShloMosaic Idealize.SL.Sem
open Cert.KernelIdeal.Gen

variable {F : FTy → Type} [FloatOps F]

/-- The arguments, which no window is on and no host operation writes, hold at the end what they held at the start. -/
theorem args_kept (m : (ℓ : Loc nD τ sig) → Buf (Elt F) ℓ) (r : PUnit × MemSt nD τ sig (Elt F))
    (h : Pipeline.FramePost cfgs (dats m) 0 (V m) r) :
    ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  fun c =>
  have kept (b : Ref sig .tc) (hb : b ∈ Pipeline.restRefs sig spec0) (hV : V m c b = m ((c.tc : Thread nD τ).loc b)) :
      r.2.mem ((c.tc : Thread nD τ).loc b) = m ((c.tc : Thread nD τ).loc b) := ((h c).2 b hb).trans hV
  ⟨kept main_arg0 (Pipeline.mem_restRefs_of main_arg0 (by decide) (by decide)) (V_main_arg0 m c),
    kept main_arg1 (Pipeline.mem_restRefs_of main_arg1 (by decide) (by decide)) (V_main_arg1 m c),
    kept main_arg2 (Pipeline.mem_restRefs_of main_arg2 (by decide) (by decide)) (V_main_arg2 m c),
    kept main_arg3 (Pipeline.mem_restRefs_of main_arg3 (by decide) (by decide)) (V_main_arg3 m c),
    kept main_arg4 (Pipeline.mem_restRefs_of main_arg4 (by decide) (by decide)) (V_main_arg4 m c),
    kept main_arg5 (Pipeline.mem_restRefs_of main_arg5 (by decide) (by decide)) (V_main_arg5 m c),
    kept main_arg6 (Pipeline.mem_restRefs_of main_arg6 (by decide) (by decide)) (V_main_arg6 m c),
    kept main_arg7 (Pipeline.mem_restRefs_of main_arg7 (by decide) (by decide)) (V_main_arg7 m c),
    kept main_arg8 (Pipeline.mem_restRefs_of main_arg8 (by decide) (by decide)) (V_main_arg8 m c),
    kept main_arg9 (Pipeline.mem_restRefs_of main_arg9 (by decide) (by decide)) (V_main_arg9 m c),
    kept main_arg10 (Pipeline.mem_restRefs_of main_arg10 (by decide) (by decide)) (V_main_arg10 m c)⟩

/-- At any reading of the floats, the program ends with its arguments as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨args_kept m r h.1, h.2⟩) (run_main m ρ)

end Cert.KernelIdeal.Rnn

namespace Cert.Proof
open Idealize.ShloMosaic Idealize.SL.Sem

/-- The kernel's frame at the extended reals. -/
theorem frame_KernelIdeal : Cert.quiescent_KernelIdeal (hKernelIdeal := Cert.KernelIdeal.Gen.facts) :=
  fun m g _ => Cert.KernelIdeal.Rnn.frame m g

attribute [local instance] Cert.Kernel.Gen.facts Cert.KernelIdeal.Gen.facts

variable {F : FTy → Type} [FloatOps F]

/-- The two printed programs have one body table, -/
theorem defs₀_same : (Cert.Kernel.defs₀ : Defs _ _ _ (Elt F) _) = Cert.KernelIdeal.defs₀ := by
  unfold Cert.Kernel.defs₀ Cert.KernelIdeal.defs₀
  refine congrArg Defs.onTc (funext fun l => funext fun a => ?_)
  match l, a with
  | 0, (t, s) => rfl

/-- and so one table of definitions, -/
theorem defs_same : (Cert.Kernel.defs : Defs _ _ _ (Elt F) _) = Cert.KernelIdeal.defs :=
  congrArg (Pipeline.defs Cert.KernelIdeal.pcfgs) defs₀_same

/-- and one main function. -/
theorem main_same : Cert.Kernel.main (F := F) = Cert.KernelIdeal.main := rfl

/-- What a run of the one program ends in, a run of the other does. -/
theorem run_same (s) (Q) : θ_run Cert.KernelIdeal.defs (onTc (τ := Cert.KernelIdeal.τ) (Cert.KernelIdeal.main (F := F))) s Q
    → θ_run Cert.Kernel.defs (onTc (τ := Cert.Kernel.τ) (Cert.Kernel.main (F := F))) s Q := by
  intro h
  rw [defs_same, main_same]
  exact h

/-- The kernel's frame at the machine's words. -/
theorem frame_Kernel : Cert.quiescent_Kernel (hKernel := Cert.Kernel.Gen.facts) :=
  fun m g _ => run_same (F := Bits) _ _ (Cert.KernelIdeal.Rnn.frame (F := Bits) m g)

end Cert.Proof
end
-- ==== Proof.Model.lean ====
/- The recurrence of one layer over the extended reals, by coordinates. -/
module

public import Idealize.ShloMosaic.Lib.Pointwise

@[expose] public section

noncomputable section

namespace Cert.Rnn

open Idealize.ShloMosaic

/-- A layer's state, or its input at one time: sixty-four sequences by five hundred and twelve units. -/
abbrev St : Type := Fin 64 → Fin 512 → EReal

/-- One step: the tanh of the input plus the state times the weights. -/
def step (W : Fin 512 → Fin 512 → EReal) (x h : St) : St := fun r j => Ideal.tanh (x r j + ∑ q, h r q * W q j)

/-- The state after `k` steps from `h`. -/
def states (W : Fin 512 → Fin 512 → EReal) (x : ℕ → St) (h : St) : ℕ → St
  | 0 => h
  | k + 1 => step W (x k) (states W x h k)

/-- Steps may be taken in two parts. -/
theorem states_add (W : Fin 512 → Fin 512 → EReal) (x : ℕ → St) (h : St) (a k : ℕ) :
    states W (fun n => x (a + n)) (states W x h a) k = states W x h (a + k) := by
  induction k with
  | zero => rfl
  | succ k ih => exact congrArg (step W (x (a + k))) ih

/-- The states depend on the inputs of the steps taken alone. -/
theorem states_congr (W : Fin 512 → Fin 512 → EReal) (x y : ℕ → St) (h : St) (k : ℕ) (e : ∀ n < k, x n = y n) :
    states W x h k = states W y h k := by
  induction k with
  | zero => rfl
  | succ k ih =>
    show step W (x k) _ = step W (y k) _
    rw [e k (Nat.lt_succ_self k), ih fun n hn => e n (Nat.lt_succ_of_lt hn)]

/-- Weights and a bias on a vector, at every time and sequence. -/
def affine {n : ℕ} (x : ℕ → Fin 64 → Fin n → EReal) (U : Fin n → Fin 512 → EReal) (b : Fin 512 → EReal) : ℕ → St :=
  fun t r j => (∑ q, x t r q * U q j) + b j

/-- The arguments by coordinates: the inputs by time, each layer's input weights, recurrent weights and bias, and the
    output layer's weights and bias. -/
structure Params where
  x : ℕ → Fin 64 → Fin 256 → EReal
  U₁ : Fin 256 → Fin 512 → EReal
  W₁ : Fin 512 → Fin 512 → EReal
  b₁ : Fin 512 → EReal
  U₂ : Fin 512 → Fin 512 → EReal
  W₂ : Fin 512 → Fin 512 → EReal
  b₂ : Fin 512 → EReal
  fw : Fin 512 → Fin 2 → EReal
  fb : Fin 2 → EReal

/-- The first layer's inputs by time. -/
def Params.in₁ (p : Params) : ℕ → St := affine p.x p.U₁ p.b₁
/-- The first layer's states. -/
def Params.h₁ (p : Params) : ℕ → St := states p.W₁ p.in₁ fun _ _ => 0
/-- The second layer's inputs by time: of the first layer's state after the step of that time. -/
def Params.in₂ (p : Params) : ℕ → St := affine (fun t => p.h₁ (t + 1)) p.U₂ p.b₂
/-- The second layer's states. -/
def Params.h₂ (p : Params) : ℕ → St := states p.W₂ p.in₂ fun _ _ => 0
/-- The result: the output layer on the second layer's last state. -/
def Params.out (p : Params) (r : Fin 64) (o : Fin 2) : EReal := (∑ q, p.h₂ 1024 r q * p.fw q o) + p.fb o

/-- The arguments' arrays by coordinates. -/
def params (a0 : (⟨3, ![64, 1024, 256]⟩ : Shape).Idx → EReal) (a1 : (⟨2, ![512, 256]⟩ : Shape).Idx → EReal) (a2 : (⟨2, ![512, 512]⟩ : Shape).Idx → EReal)
    (a3 a4 : (⟨1, ![512]⟩ : Shape).Idx → EReal) (a5 a6 : (⟨2, ![512, 512]⟩ : Shape).Idx → EReal) (a7 a8 : (⟨1, ![512]⟩ : Shape).Idx → EReal)
    (a9 : (⟨2, ![2, 512]⟩ : Shape).Idx → EReal) (a10 : (⟨1, ![2]⟩ : Shape).Idx → EReal) : Params where
  x t r q := a0 (ix3 r (⟨t % 1024, Nat.mod_lt t (by decide)⟩ : Fin 1024) q)
  U₁ q j := a1 (ix2 j q)
  W₁ q j := a2 (ix2 j q)
  b₁ j := a3 (ix1 j) + a4 (ix1 j)
  U₂ q j := a5 (ix2 j q)
  W₂ q j := a6 (ix2 j q)
  b₂ j := a7 (ix1 j) + a8 (ix1 j)
  fw q o := a9 (ix2 o q)
  fb o := a10 (ix1 o)

end Cert.Rnn

end
-- ==== Proof.KernelMath.lean ====
/- The kernel's arithmetic over the extended reals, by coordinates. -/
module

public import proofs.«01_k».proof.Proof.Model
public import proofs.«01_k».proof.Proof.BodyRun

@[expose] public section

noncomputable section

namespace Cert.KernelIdeal.Rnn

open Idealize.ShloMosaic Idealize.SL.Sem
open Cert.KernelIdeal.Gen Cert.Rnn

/-- A state by coordinates. -/
def st (h : FVec Ideal S64x512 .bf16) : St := fun r j => h (ix2 r j)
/-- The weights by coordinates. -/
def mat (w : Vec Ideal S512x512 .bf16) : Fin 512 → Fin 512 → EReal := fun q j => w (ix2 q j)
/-- A block's rows by number, the numbers wrapping round at sixty-four. -/
def rows (B : Vec Ideal S64x64x512 .bf16) (k : ℕ) : St := fun r j => B (ix3 (⟨k % 64, Nat.mod_lt k (by decide)⟩ : Fin 64) r j)

set_option maxRecDepth 16384 in
/-- One update. -/
theorem cell_at (w : Vec Ideal S512x512 .bf16) (x : Vec Ideal S1x64x512 .bf16) (h : FVec Ideal S64x512 .bf16) (r : Fin 64) (j : Fin 512) :
    cell w x h (ix2 r j) = Ideal.tanh (x (ix3 (0 : Fin 1) r j) + ∑ q : Fin 512, h (ix2 r q) * w (ix2 q j)) := by
  pointwise [cell]

/-- A row of a block. -/
theorem rowAt_at (B : Vec Ideal S64x64x512 .bf16) (k : ℕ) (r : Fin 64) (j : Fin 512) : rowAt B k (ix3 (0 : Fin 1) r j) = rows B k r j := by
  pointwise [rowAt, rows]

/-- One step of a layer is the recurrence's. -/
theorem stepA_st (w : Vec Ideal S512x512 .bf16) (B : Vec Ideal S64x64x512 .bf16) (k : ℕ) (h : FVec Ideal S64x512 .bf16) :
    st (stepA w (rowAt B k) h) = step (mat w) (rows B k) (st h) := by
  funext r j
  show cell w (rowAt B k) h (ix2 r j) = _
  rw [cell_at, rowAt_at]
  rfl

/-- Steps of a layer are the recurrence's. -/
theorem seqA_st (w : Vec Ideal S512x512 .bf16) (B : Vec Ideal S64x64x512 .bf16) (h : FVec Ideal S64x512 .bf16) (k : ℕ) :
    st (seqA w B h k) = states (mat w) (rows B) (st h) k := by
  induction k with
  | zero => rfl
  | succ k ih =>
    show st (stepA w (rowAt B k) (seqA w B h k)) = _
    rw [stepA_st, ih]
    rfl

/-- The zero state. -/
theorem zeroState_st : st (zeroState (F := Ideal)) = fun _ _ => 0 := by
  funext r j
  show zeroState (F := Ideal) (ix2 r j) = 0
  pointwise [zeroState]

/-- With its bit set, the second layer steps as a layer does. -/
theorem seqB_live (v : Vec Ideal S512x512 .bf16) (B : Vec Ideal S64x64x512 .bf16) (h : FVec Ideal S64x512 .bf16) (k : ℕ) :
    seqB 1#1 v B h k = seqA v B h k := by
  induction k with
  | zero => rfl
  | succ k ih =>
    show stepB 1#1 v (rowAt B k) (seqB 1#1 v B h k) = stepA v (rowAt B k) (seqA v B h k)
    rw [ih]
    rfl

/-- With its bit not set, the second layer's state after a step is zero. -/
theorem seqB_zero (v : Vec Ideal S512x512 .bf16) (B : Vec Ideal S64x64x512 .bf16) (h : FVec Ideal S64x512 .bf16) (k : ℕ) :
    st (seqB 0#1 v B h (k + 1)) = fun _ _ => 0 := by
  funext r j
  show stepB 0#1 v (rowAt B k) (seqB 0#1 v B h k) (ix2 r j) = 0
  pointwise [stepB]

set_option maxRecDepth 16384 in
/-- The first layer's pre-activations. -/
theorem preA_at (x : Vec Ideal S64x64x256 .bf16) (w : Vec Ideal S256x512 .bf16) (b : Vec Ideal S1x512 .f32) (t r : Fin 64) (j : Fin 512) :
    preA x w b (ix3 t r j) = (∑ q : Fin 256, x (ix3 t r q) * w (ix2 q j)) + b (ix2 (0 : Fin 1) j) := by
  pointwise [preA]

set_option maxRecDepth 16384 in
/-- The second layer's pre-activations. -/
theorem preB_at (x : Vec Ideal S64x64x512 .bf16) (w : Vec Ideal S512x512 .bf16) (b : Vec Ideal S1x512 .f32) (t r : Fin 64) (j : Fin 512) :
    preB x w b (ix3 t r j) = (∑ q : Fin 512, x (ix3 t r q) * w (ix2 q j)) + b (ix2 (0 : Fin 1) j) := by
  pointwise [preB]

/-- The output layer. -/
theorem head_at (w : Vec Ideal S512x2 .bf16) (b : Vec Ideal S1x2 .f32) (h : FVec Ideal S64x512 .bf16) (r : Fin 64) (o : Fin 2) :
    head w b h (ix2 r o) = (∑ q : Fin 512, h (ix2 r q) * w (ix2 q o)) + b (ix2 (0 : Fin 1) o) := by
  pointwise [head]

/-- The buffer of the first layer's states holds at row `t` the state after `t + 1` steps. -/
theorem histAll_at (w : Vec Ideal S512x512 .bf16) (B : Vec Ideal S64x64x512 .bf16) (h : FVec Ideal S64x512 .bf16) (t r : Fin 64) (j : Fin 512) :
    histAll w B h (ix3 t r j) = st (seqA w B h (t.val + 1)) r j := by
  show asRow (seqA w B h (t.val + 1)) (ix3 (0 : Fin 1) r j) = seqA w B h (t.val + 1) (ix2 r j)
  generalize seqA w B h (t.val + 1) = s
  pointwise [asRow]

/-! ## A chunk of the recurrence -/

section
variable (p : Params) (n : ℕ)

/-- The first layer over chunk `n`, from its state before the chunk. -/
theorem layer₁ (x : Vec Ideal S64x64x256 .bf16) (w0 : Vec Ideal S256x512 .bf16) (w : Vec Ideal S512x512 .bf16) (b : Vec Ideal S1x512 .f32)
    (h : FVec Ideal S64x512 .bf16) (hx : ∀ (t r : Fin 64) (q : Fin 256), x (ix3 t r q) = p.x (64 * n + t.val) r q)
    (hU : ∀ (q : Fin 256) (j : Fin 512), w0 (ix2 q j) = p.U₁ q j) (hW : ∀ q j : Fin 512, w (ix2 q j) = p.W₁ q j)
    (hb : ∀ j : Fin 512, b (ix2 (0 : Fin 1) j) = p.b₁ j) (hh : st h = p.h₁ (64 * n)) (k : ℕ) (hk : k ≤ 64) :
    st (seqA w (preA x w0 b) h k) = p.h₁ (64 * n + k) := by
  rw [seqA_st, hh, show mat w = p.W₁ from funext fun q => funext fun j => hW q j]
  refine (states_congr _ _ (fun i => p.in₁ (64 * n + i)) _ k fun i hi => ?_).trans (states_add _ _ _ _ _)
  funext r j
  unfold rows
  simp only [preA_at, hx, hU, hb, Nat.mod_eq_of_lt (lt_of_lt_of_le hi hk)]
  rfl

/-- The second layer over chunk `n`, from its state before the chunk and the first layer's states in it. -/
theorem layer₂ (x : Vec Ideal S64x64x512 .bf16) (u v : Vec Ideal S512x512 .bf16) (b : Vec Ideal S1x512 .f32)
    (h : FVec Ideal S64x512 .bf16) (hx : ∀ (t r : Fin 64) (q : Fin 512), x (ix3 t r q) = p.h₁ (64 * n + (t.val + 1)) r q)
    (hU : ∀ q j : Fin 512, u (ix2 q j) = p.U₂ q j) (hW : ∀ q j : Fin 512, v (ix2 q j) = p.W₂ q j)
    (hb : ∀ j : Fin 512, b (ix2 (0 : Fin 1) j) = p.b₂ j) (hh : st h = p.h₂ (64 * n)) (k : ℕ) (hk : k ≤ 64) :
    st (seqA v (preB x u b) h k) = p.h₂ (64 * n + k) := by
  rw [seqA_st, hh, show mat v = p.W₂ from funext fun q => funext fun j => hW q j]
  refine (states_congr _ _ (fun i => p.in₂ (64 * n + i)) _ k fun i hi => ?_).trans (states_add _ _ _ _ _)
  funext r j
  unfold rows
  simp only [preB_at, hx, hU, hb, Nat.mod_eq_of_lt (lt_of_lt_of_le hi hk)]
  rfl

end

end Cert.KernelIdeal.Rnn

end
-- ==== Proof.KernelValue.lean ====
/- What the kernel's result array holds at the end, over the extended reals, by coordinates. -/
module

public import proofs.«01_k».proof.Proof.KernelMath
public import proofs.«01_k».proof.Proof.Run
public import Idealize.ShloMosaic.Lib.Pipeline.ValueKit

@[expose] public section

set_option maxRecDepth 16384

noncomputable section

namespace Cert.KernelIdeal.Rnn

open Idealize.ShloMosaic Idealize.ShloMosaic.TcCoe Idealize.SL.Sem
open Cert.KernelIdeal.Gen Cert.Rnn

variable (m : (ℓ : Loc nD τ sig) → Buf (Elt Ideal) ℓ) (c : Dev nD)

/-- The arguments' contents by coordinates. -/
def par : Params :=
  params (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-! ## The blocks -/

/-- The inputs' block at a point is its chunk of times. -/
theorem idx0 : ∀ t : Fin cfg0.N, win0_0.index t = ![t.val, 0, 0] := by decide +kernel
/-- Every other input's block is its whole array. -/
theorem idx1 : ∀ t : Fin cfg0.N, win0_1.index t = ![0, 0] := by decide +kernel
@[inherit_doc idx1]
theorem idx2 : ∀ t : Fin cfg0.N, win0_2.index t = ![0, 0] := by decide +kernel
@[inherit_doc idx1]
theorem idx3 : ∀ t : Fin cfg0.N, win0_3.index t = ![0, 0] := by decide +kernel
@[inherit_doc idx1]
theorem idx4 : ∀ t : Fin cfg0.N, win0_4.index t = ![0, 0] := by decide +kernel
@[inherit_doc idx1]
theorem idx5 : ∀ t : Fin cfg0.N, win0_5.index t = ![0, 0] := by decide +kernel
@[inherit_doc idx1]
theorem idx6 : ∀ t : Fin cfg0.N, win0_6.index t = ![0, 0] := by decide +kernel
@[inherit_doc idx1]
theorem idx7 : ∀ t : Fin cfg0.N, win0_7.index t = ![0, 0] := by decide +kernel
@[inherit_doc idx1]
theorem idx8 : ∀ t : Fin cfg0.N, win0_8.index t = ![0, 0] := by decide +kernel

/-- The inputs of a chunk, -/
theorem blk0_at (t : Fin cfg0.N) (s r : Fin 64) (q : Fin 256) : blk0 m c t (ix3 s r q) = (par m c).x (64 * t.val + s.val) r q := by
  have hN : t.val < 16 := lt_of_lt_of_eq t.isLt N_0
  unfold blk0 par params
  blk_ext! [iblk, V, idx0 t]

/-- the weights of both layers, -/
theorem blk1_at (t : Fin cfg0.N) (q : Fin 256) (j : Fin 512) : blk1 m c t (ix2 q j) = (par m c).U₁ q j := by
  unfold blk1 par params
  blk_ext! [iblk, V, idx1 t]
@[inherit_doc blk1_at]
theorem blk2_at (t : Fin cfg0.N) (q j : Fin 512) : blk2 m c t (ix2 q j) = (par m c).W₁ q j := by
  unfold blk2 par params
  blk_ext! [iblk, V, idx2 t]
@[inherit_doc blk1_at]
theorem blk3_at (t : Fin cfg0.N) (q j : Fin 512) : blk3 m c t (ix2 q j) = (par m c).U₂ q j := by
  unfold blk3 par params
  blk_ext! [iblk, V, idx3 t]
@[inherit_doc blk1_at]
theorem blk4_at (t : Fin cfg0.N) (q j : Fin 512) : blk4 m c t (ix2 q j) = (par m c).W₂ q j := by
  unfold blk4 par params
  blk_ext! [iblk, V, idx4 t]

/-- their biases, -/
theorem blk5_at (t : Fin cfg0.N) (j : Fin 512) : blk5 m c t (ix2 (0 : Fin 1) j) = (par m c).b₁ j := by
  unfold blk5 par params
  blk_simp [iblk, V, idx5 t]
  entry_read
  pointwise
  congr 1 <;> blk_ext [idx5 t]
@[inherit_doc blk5_at]
theorem blk6_at (t : Fin cfg0.N) (j : Fin 512) : blk6 m c t (ix2 (0 : Fin 1) j) = (par m c).b₂ j := by
  unfold blk6 par params
  blk_simp [iblk, V, idx6 t]
  entry_read
  pointwise
  congr 1 <;> blk_ext [idx6 t]

/-- and the output layer's weights and bias. -/
theorem blk7_at (t : Fin cfg0.N) (q : Fin 512) (o : Fin 2) : blk7 m c t (ix2 q o) = (par m c).fw q o := by
  unfold blk7 par params
  blk_ext! [iblk, V, idx7 t]
@[inherit_doc blk7_at]
theorem blk8_at (t : Fin cfg0.N) (o : Fin 2) : blk8 m c t (ix2 (0 : Fin 1) o) = (par m c).fb o := by
  unfold blk8 par params
  blk_ext! [iblk, V, idx8 t]

/-! ## The points -/

/-- The first layer is at the state before its chunk when a point starts it. -/
theorem start₁ (t : Fin cfg0.N) (h : st (carry m c t.val).1 = (par m c).h₁ (64 * t.val)) :
    st (startOf (grid0.coords t) (carry m c t.val).1) = (par m c).h₁ (64 * t.val) := by
  unfold startOf
  by_cases hf : first (grid0.coords t) = 1#1
  · rw [if_pos hf, (first_iff t).1 hf]
    exact zeroState_st
  · rw [if_neg hf, h]

/-- Before point `n` the first layer is at its state before chunk `n`; and, past the first point, the second layer is one
    chunk behind, the first layer's states in that chunk being held. -/
theorem carry_at (n : ℕ) (hn : n ≤ 16) :
    st (carry m c n).1 = (par m c).h₁ (64 * n)
    ∧ ∀ k, n = k + 1 → st (carry m c n).2.1 = (par m c).h₂ (64 * k)
      ∧ ∀ (u r : Fin 64) (q : Fin 512), (carry m c n).2.2 (ix3 u r q) = (par m c).h₁ (64 * k + (u.val + 1)) r q := by
  induction n with
  | zero => exact ⟨zeroState_st, fun k hk => absurd hk (Nat.succ_ne_zero k).symm⟩
  | succ n ih =>
    obtain ⟨h1, h2⟩ := ih (by omega)
    have hN : n < cfg0.N := lt_of_lt_of_eq (show n < 16 by omega) N_0.symm
    have hs := start₁ m c ⟨n, hN⟩ h1
    have hA := layer₁ (par m c) n (blk0 m c ⟨n, hN⟩) (blk1 m c ⟨n, hN⟩) (blk2 m c ⟨n, hN⟩) (blk5 m c ⟨n, hN⟩) _
      (blk0_at m c ⟨n, hN⟩) (blk1_at m c ⟨n, hN⟩) (blk2_at m c ⟨n, hN⟩) (blk5_at m c ⟨n, hN⟩) hs
    have e : carry m c (n + 1) = next m c ⟨n, hN⟩ (carry m c n) := dif_pos hN
    rw [e]
    refine ⟨hA 64 le_rfl, fun k hk => ?_⟩
    obtain rfl : n = k := Nat.succ.inj hk
    refine ⟨?_, fun u r q => ?_⟩
    · show st (seqB (live (grid0.coords ⟨n, hN⟩)) (blk4 m c ⟨n, hN⟩) (preB (carry m c n).2.2 (blk3 m c ⟨n, hN⟩) (blk6 m c ⟨n, hN⟩))
        (startOf (grid0.coords ⟨n, hN⟩) (carry m c n).2.1) 64) = _
      rw [live_iff]
      cases n with
      | zero => exact seqB_zero _ _ _ 63
      | succ k =>
        obtain ⟨h3, h4⟩ := h2 k rfl
        have hf : first (grid0.coords ⟨k + 1, hN⟩) ≠ 1#1 := fun h => absurd ((first_iff _).1 h) (Nat.succ_ne_zero k)
        rw [if_neg (Nat.succ_ne_zero k), seqB_live]
        unfold startOf
        rw [if_neg hf]
        exact layer₂ (par m c) k _ _ _ _ _ h4 (blk3_at m c _) (blk4_at m c _) (blk6_at m c _) h3 64 le_rfl
    · show histAll (blk2 m c ⟨n, hN⟩) (preA (blk0 m c ⟨n, hN⟩) (blk1 m c ⟨n, hN⟩) (blk5 m c ⟨n, hN⟩))
        (startOf (grid0.coords ⟨n, hN⟩) (carry m c n).1) (ix3 u r q) = _
      rw [histAll_at]
      exact congrFun (congrFun (hA (u.val + 1) (by omega)) r) q

/-- The last point's result is the output layer on the second layer's last state. -/
theorem result_at (t : Fin cfg0.N) (ht : t.val = 15) (r : Fin 64) (o : Fin 2) :
    result m c t (carry m c t.val) (ix2 r o) = (par m c).out r o := by
  obtain ⟨-, h⟩ := carry_at m c 16 le_rfl
  obtain ⟨h3, h4⟩ := h 15 rfl
  have e : carry m c 16 = next m c t (carry m c t.val) := by
    obtain ⟨n, hn⟩ := t
    obtain rfl : n = 15 := ht
    exact dif_pos hn
  rw [e] at h3 h4
  have hl := layer₂ (par m c) 15 _ _ _ _ _ h4 (blk3_at m c t) (blk4_at m c t) (blk6_at m c t) h3 64 le_rfl
  show head (blk7 m c t) (blk8 m c t) (seqA (blk4 m c t) (preB (next m c t (carry m c t.val)).2.2 (blk3 m c t) (blk6 m c t)) (next m c t (carry m c t.val)).2.1 64) (ix2 r o) = _
  rw [head_at, blk8_at]
  refine congrArg (· + (par m c).fb o) (Finset.sum_congr rfl fun q _ => ?_)
  rw [blk7_at]
  exact congrArg (· * (par m c).fw q o) (congrFun (congrFun hl r) q)

/-- The result array at the end. -/
theorem out_at : (dats m 0 c).arrAt 9 (cfgs 0).N = fun y => (par m c).out (y 0) (y 1) := by
  refine (dats m 0 c).arrAt_eq_of_after_last 9 t0_15 (by decide +kernel) _ fun y => ?_
  blk_simp
  rw [eq_ix2 y]
  exact result_at m c t0_15 rfl (y 0) (y 1)

end Cert.KernelIdeal.Rnn

end
-- ==== Proof.RefOps.lean ====
/- The reference's operations as lists: what @main does around its two scans, and one scan's condition and body over
   the buffers of either. -/
module

public import proofs.«01_k».proof.Proof.Gen.ReferenceIdeal
public import Idealize.ShloMosaic.Lib.StableHlo.RunLoop
public import Idealize.ShloMosaic.Lib.StableHlo.RunRead
public import Idealize.ShloMosaic.Lib.Pipeline.Value

@[expose] public section

noncomputable section

namespace Cert.ReferenceIdeal.Rnn

open Idealize.ShloMosaic Idealize.ShloMosaic.TcCoe Idealize.SL.Sem
open Cert.ReferenceIdeal.Facts₀

variable {F : FTy → Type} [FloatOps F]

/-- @main's operations before the first layer's scan. -/
def enterOps : List (HloOp τ sig (Elt F)) :=
  [StableHlo.binary main_arg0 main_arg1 main_v0 ((fun l r => Host.dotGeneral dot_S64x1024x256_S512x256_S64x1024x512_2_1_01_0_n_n none l r) : (⟨S64x1024x256, .f32⟩ : BufTy).Contents (Elt F) → (⟨S512x256, .f32⟩ : BufTy).Contents (Elt F) → (⟨S64x1024x512, .f32⟩ : BufTy).Contents (Elt F)),
   StableHlo.binary main_arg3 main_arg4 main_v1 (addf : (⟨S512, .f32⟩ : BufTy).Contents (Elt F) → (⟨S512, .f32⟩ : BufTy).Contents (Elt F) → (⟨S512, .f32⟩ : BufTy).Contents (Elt F)),
   StableHlo.unary main_v1 main_v2 (broadcastInDim S1x1x512 ![2] bcast_S512_S1x1x512_2 : (⟨S512, .f32⟩ : BufTy).Contents (Elt F) → (⟨S1x1x512, .f32⟩ : BufTy).Contents (Elt F)),
   StableHlo.unary main_v2 main_v3 (broadcastInDim S64x1024x512 ![0, 1, 2] bcast_S1x1x512_S64x1024x512_0_1_2 : (⟨S1x1x512, .f32⟩ : BufTy).Contents (Elt F) → (⟨S64x1024x512, .f32⟩ : BufTy).Contents (Elt F)),
   StableHlo.binary main_v0 main_v3 main_v4 (addf : (⟨S64x1024x512, .f32⟩ : BufTy).Contents (Elt F) → (⟨S64x1024x512, .f32⟩ : BufTy).Contents (Elt F) → (⟨S64x1024x512, .f32⟩ : BufTy).Contents (Elt F)),
   StableHlo.nullary main_cst (constant S_ .f32 0x00000000#32),
   StableHlo.unary main_cst main_v5 (broadcastInDim S64x512 ![] bcast_S_S64x512 : (⟨S_, .f32⟩ : BufTy).Contents (Elt F) → (⟨S64x512, .f32⟩ : BufTy).Contents (Elt F)),
   StableHlo.unary main_v4 main_v6 ((transpose S1024x64x512 [1, 0, 2] · transposes_S64x1024x512_S1024x64x512_1_0_2) : (⟨S64x1024x512, .f32⟩ : BufTy).Contents (Elt F) → (⟨S1024x64x512, .f32⟩ : BufTy).Contents (Elt F)),
   StableHlo.nullary main_cst_0 (constant S_ .f32 0x00000000#32),
   StableHlo.unary main_cst_0 main_v7 (broadcastInDim S1024x64x512 ![] bcast_S_S1024x64x512 : (⟨S_, .f32⟩ : BufTy).Contents (Elt F) → (⟨S1024x64x512, .f32⟩ : BufTy).Contents (Elt F)),
   StableHlo.nullary main_c (constantI S_ 32 0#32),
   StableHlo.unary main_v6 main_v8_0 id,
   StableHlo.unary main_arg2 main_v8_1 id,
   StableHlo.unary main_c main_v8_2 id,
   StableHlo.unary main_v5 main_v8_3 id,
   StableHlo.unary main_v7 main_v8_4 id]

/-- @main's operations between the two scans. -/
def midOps : List (HloOp τ sig (Elt F)) :=
  [StableHlo.unary main_v8_4 main_v9 ((transpose S64x1024x512 [1, 0, 2] · transposes_S1024x64x512_S64x1024x512_1_0_2) : (⟨S1024x64x512, .f32⟩ : BufTy).Contents (Elt F) → (⟨S64x1024x512, .f32⟩ : BufTy).Contents (Elt F)),
   StableHlo.binary main_v9 main_arg5 main_v10 ((fun l r => Host.dotGeneral dot_S64x1024x512_S512x512_S64x1024x512_2_1_01_0_n_n none l r) : (⟨S64x1024x512, .f32⟩ : BufTy).Contents (Elt F) → (⟨S512x512, .f32⟩ : BufTy).Contents (Elt F) → (⟨S64x1024x512, .f32⟩ : BufTy).Contents (Elt F)),
   StableHlo.binary main_arg7 main_arg8 main_v11 (addf : (⟨S512, .f32⟩ : BufTy).Contents (Elt F) → (⟨S512, .f32⟩ : BufTy).Contents (Elt F) → (⟨S512, .f32⟩ : BufTy).Contents (Elt F)),
   StableHlo.unary main_v11 main_v12 (broadcastInDim S1x1x512 ![2] bcast_S512_S1x1x512_2 : (⟨S512, .f32⟩ : BufTy).Contents (Elt F) → (⟨S1x1x512, .f32⟩ : BufTy).Contents (Elt F)),
   StableHlo.unary main_v12 main_v13 (broadcastInDim S64x1024x512 ![0, 1, 2] bcast_S1x1x512_S64x1024x512_0_1_2 : (⟨S1x1x512, .f32⟩ : BufTy).Contents (Elt F) → (⟨S64x1024x512, .f32⟩ : BufTy).Contents (Elt F)),
   StableHlo.binary main_v10 main_v13 main_v14 (addf : (⟨S64x1024x512, .f32⟩ : BufTy).Contents (Elt F) → (⟨S64x1024x512, .f32⟩ : BufTy).Contents (Elt F) → (⟨S64x1024x512, .f32⟩ : BufTy).Contents (Elt F)),
   StableHlo.nullary main_cst_1 (constant S_ .f32 0x00000000#32),
   StableHlo.unary main_cst_1 main_v15 (broadcastInDim S64x512 ![] bcast_S_S64x512 : (⟨S_, .f32⟩ : BufTy).Contents (Elt F) → (⟨S64x512, .f32⟩ : BufTy).Contents (Elt F)),
   StableHlo.unary main_v14 main_v16 ((transpose S1024x64x512 [1, 0, 2] · transposes_S64x1024x512_S1024x64x512_1_0_2) : (⟨S64x1024x512, .f32⟩ : BufTy).Contents (Elt F) → (⟨S1024x64x512, .f32⟩ : BufTy).Contents (Elt F)),
   StableHlo.nullary main_cst_2 (constant S_ .f32 0x00000000#32),
   StableHlo.unary main_cst_2 main_v17 (broadcastInDim S1024x64x512 ![] bcast_S_S1024x64x512 : (⟨S_, .f32⟩ : BufTy).Contents (Elt F) → (⟨S1024x64x512, .f32⟩ : BufTy).Contents (Elt F)),
   StableHlo.nullary main_c_3 (constantI S_ 32 0#32),
   StableHlo.unary main_v16 main_v18_0 id,
   StableHlo.unary main_arg6 main_v18_1 id,
   StableHlo.unary main_c_3 main_v18_2 id,
   StableHlo.unary main_v15 main_v18_3 id,
   StableHlo.unary main_v17 main_v18_4 id]

/-- @main's operations after the second layer's scan. -/
def exitOps : List (HloOp τ sig (Elt F)) :=
  [StableHlo.unary main_v18_4 main_v19 ((transpose S64x1024x512 [1, 0, 2] · transposes_S1024x64x512_S64x1024x512_1_0_2) : (⟨S1024x64x512, .f32⟩ : BufTy).Contents (Elt F) → (⟨S64x1024x512, .f32⟩ : BufTy).Contents (Elt F)),
   StableHlo.unary main_v19 main_v20 ((extractStridedSlice S64x1x512 ![0, 1023, 0] · slices_S64x1024x512_S64x1x512_0_1023_0) : (⟨S64x1024x512, .f32⟩ : BufTy).Contents (Elt F) → (⟨S64x1x512, .f32⟩ : BufTy).Contents (Elt F)),
   StableHlo.reshape main_v20 main_v21 (rfl : (.f32 : EltTy) = .f32) shapeCasts_S64x1x512_S64x512,
   StableHlo.unary main_arg9 main_v22 ((transpose S512x2 [1, 0] · transposes_S2x512_S512x2_1_0) : (⟨S2x512, .f32⟩ : BufTy).Contents (Elt F) → (⟨S512x2, .f32⟩ : BufTy).Contents (Elt F)),
   StableHlo.binary main_v21 main_v22 main_v23 ((fun l r => Host.dotGeneral dot_S64x512_S512x2_S64x2_1_0_0_1_n_n none l r) : (⟨S64x512, .f32⟩ : BufTy).Contents (Elt F) → (⟨S512x2, .f32⟩ : BufTy).Contents (Elt F) → (⟨S64x2, .f32⟩ : BufTy).Contents (Elt F)),
   StableHlo.unary main_arg10 main_v24 (broadcastInDim S1x2 ![1] bcast_S2_S1x2_1 : (⟨S2, .f32⟩ : BufTy).Contents (Elt F) → (⟨S1x2, .f32⟩ : BufTy).Contents (Elt F)),
   StableHlo.unary main_v24 main_v25 (broadcastInDim S64x2 ![0, 1] bcast_S1x2_S64x2_0_1 : (⟨S1x2, .f32⟩ : BufTy).Contents (Elt F) → (⟨S64x2, .f32⟩ : BufTy).Contents (Elt F)),
   StableHlo.binary main_v23 main_v25 main_v26 (addf : (⟨S64x2, .f32⟩ : BufTy).Contents (Elt F) → (⟨S64x2, .f32⟩ : BufTy).Contents (Elt F) → (⟨S64x2, .f32⟩ : BufTy).Contents (Elt F))]

/-- The buffers of one scan over time: the inputs of all the steps, the recurrent weights, the step's number, the state,
    the states of all the steps, and what the condition and the body compute on the way. -/
structure Bufs where
  xs : StableHlo.TRef sig ⟨S1024x64x512, .f32⟩
  w : StableHlo.TRef sig ⟨S512x512, .f32⟩
  i : StableHlo.TRef sig ⟨S_, .i32⟩
  h : StableHlo.TRef sig ⟨S64x512, .f32⟩
  ys : StableHlo.TRef sig ⟨S1024x64x512, .f32⟩
  bound : StableHlo.TRef sig ⟨S_, .i32⟩
  less : StableHlo.TRef sig ⟨S_, .i1⟩
  read : fn_dynamic_index_in_dim.Bufs
  wT : StableHlo.TRef sig ⟨S512x512, .f32⟩
  prod : StableHlo.TRef sig ⟨S64x512, .f32⟩
  sum : StableHlo.TRef sig ⟨S64x512, .f32⟩
  new : StableHlo.TRef sig ⟨S64x512, .f32⟩
  write : fn_dynamic_update_index_in_dim.Bufs
  one : StableHlo.TRef sig ⟨S_, .i32⟩
  next : StableHlo.TRef sig ⟨S_, .i32⟩

/-- The buffers of the two layers' scans. -/
abbrev bufs : Fin 2 → Bufs
  | 0 => ⟨.of main_v8_0, .of main_v8_1, .of main_v8_2, .of main_v8_3, .of main_v8_4, .of main_while0c_c_8, .of main_while0c_v27,
      main_while0b_call0, .of main_while0b_v28, .of main_while0b_v29, .of main_while0b_v30, .of main_while0b_v31, main_while0b_call1,
      .of main_while0b_c_8, .of main_while0b_v33⟩
  | 1 => ⟨.of main_v18_0, .of main_v18_1, .of main_v18_2, .of main_v18_3, .of main_v18_4, .of main_while1c_c_8, .of main_while1c_v27,
      main_while1b_call2, .of main_while1b_v28, .of main_while1b_v29, .of main_while1b_v30, .of main_while1b_v31, main_while1b_call3,
      .of main_while1b_c_8, .of main_while1b_v33⟩

/-- A scan's condition: the step's number against the number of steps. -/
abbrev condOps (b : Bufs) : List (HloOp τ sig (Elt F)) :=
  [StableHlo.TRef.nullary b.bound (constantI S_ 32 1024#32),
   StableHlo.TRef.binary b.i b.bound b.less (cmpi .slt)]

/-- A scan's body: the step's input, the state times the transposed weights, their sum's tanh, stored as the step's state. -/
abbrev bodyOps (b : Bufs) : List (HloOp τ sig (Elt F)) :=
  [StableHlo.TRef.nullary b.read.c (constantI S_ 32 0#32),
   StableHlo.TRef.nullary b.read.c_0 (constantI S_ 32 0#32),
   StableHlo.TRef.unaryIndexed b.xs ![b.i, b.read.c, b.read.c_0] b.read.v0 (fun x i => Host.dynamicSlice S1x64x512 x (fun k => (i k (Shape.Idx.first h_S_)).toInt) sliceFits_S1024x64x512_S1x64x512),
   StableHlo.TRef.reshape b.read.v0 b.read.v1 (rfl : (.f32 : EltTy) = .f32) shapeCasts_S1x64x512_S64x512,
   StableHlo.TRef.unary b.w b.wT (transpose S512x512 [1, 0] · transposes_S512x512_S512x512_1_0),
   StableHlo.TRef.binary b.h b.wT b.prod (fun l r => Host.dotGeneral dot_S64x512_S512x512_S64x512_1_0_0_1_n_n none l r),
   StableHlo.TRef.binary b.read.v1 b.prod b.sum addf,
   StableHlo.TRef.unary b.sum b.new Host.tanh,
   StableHlo.TRef.unary b.new b.write.v0 (broadcastInDim S1x64x512 ![1, 2] bcast_S64x512_S1x64x512_1_2),
   StableHlo.TRef.nullary b.write.c (constantI S_ 32 0#32),
   StableHlo.TRef.nullary b.write.c_0 (constantI S_ 32 0#32),
   StableHlo.TRef.binaryIndexed b.ys b.write.v0 ![b.i, b.write.c, b.write.c_0] b.write.v1 (fun x u i => Host.dynamicUpdateSlice x u (fun k => (i k (Shape.Idx.first h_S_)).toInt) updateFits_S1024x64x512_S1x64x512),
   StableHlo.TRef.nullary b.one (constantI S_ 32 1#32),
   StableHlo.TRef.binary b.i b.one b.next addi,
   StableHlo.TRef.unary b.next b.i id,
   StableHlo.TRef.unary b.new b.h id,
   StableHlo.TRef.unary b.write.v1 b.ys id]

/-- @main is its stretches and the two scans. -/
theorem main_chain (c : Dev nD) : main (F := F) c = Pipeline.chain [StableHlo.seq enterOps, HostLoop.enter 0, StableHlo.seq midOps, HostLoop.enter 1, StableHlo.seq exitOps] := by
  chain_rfl

/-- The first scan's body is one stretch of operations. -/
theorem body0_chain : main_while0_body (F := F) = Pipeline.chain [StableHlo.seq (bodyOps (bufs 0))] := by
  chain_rfl

/-- The second scan's body is one stretch of operations. -/
theorem body1_chain : main_while1_body (F := F) = Pipeline.chain [StableHlo.seq (bodyOps (bufs 1))] := by
  chain_rfl

/-- One trip of a scan on the buffers: the condition's operations, then the body's. -/
abbrev trip (l : Fin 2) (V : Valuation τ sig (Elt F)) : Valuation τ sig (Elt F) :=
  StableHlo.after (bodyOps (bufs l)) (StableHlo.after (condOps (bufs l)) V)

/-- The step's input out of the inputs of all the steps, at a step's number. -/
abbrev pick (xs : Vec F S1024x64x512 .f32) (i : IVec S_ 32) : Vec F S64x512 .f32 :=
  shapeCast S64x512 (Host.dynamicSlice S1x64x512 xs (fun k => ((![i, constantI S_ 32 0#32, constantI S_ 32 0#32] : Fin 3 → IVec S_ 32) k (Shape.Idx.first h_S_)).toInt) sliceFits_S1024x64x512_S1x64x512) shapeCasts_S1x64x512_S64x512

/-- One step of the recurrence, as the reference computes it. -/
abbrev step (xs : Vec F S1024x64x512 .f32) (w : Vec F S512x512 .f32) (i : IVec S_ 32) (h : Vec F S64x512 .f32) : Vec F S64x512 .f32 :=
  Host.tanh (addf (pick xs i) (Host.dotGeneral dot_S64x512_S512x512_S64x512_1_0_0_1_n_n none h (transpose S512x512 [1, 0] w transposes_S512x512_S512x512_1_0)))

/-- The states of all the steps with one more stored, at a step's number. -/
abbrev put (ys : Vec F S1024x64x512 .f32) (i : IVec S_ 32) (h : Vec F S64x512 .f32) : Vec F S1024x64x512 .f32 :=
  Host.dynamicUpdateSlice ys (broadcastInDim S1x64x512 ![1, 2] bcast_S64x512_S1x64x512_1_2 h) (fun k => ((![i, constantI S_ 32 0#32, constantI S_ 32 0#32] : Fin 3 → IVec S_ 32) k (Shape.Idx.first h_S_)).toInt) updateFits_S1024x64x512_S1x64x512

/-- What a scan carries: its inputs, its weights, the step's number, the state, and the states of all the steps. -/
@[ext] structure Carry (F : FTy → Type) [FloatOps F] where
  xs : Vec F S1024x64x512 .f32
  w : Vec F S512x512 .f32
  i : IVec S_ 32
  h : Vec F S64x512 .f32
  ys : Vec F S1024x64x512 .f32

/-- One trip on what a scan carries. -/
abbrev Carry.next (s : Carry F) : Carry F :=
  ⟨s.xs, s.w, addi s.i (constantI S_ 32 1#32), step s.xs s.w s.i s.h, put s.ys s.i (step s.xs s.w s.i s.h)⟩

/-- The step's number, a word counting up from zero. -/
theorem counter (s : Carry F) (hs : s.i = constantI S_ 32 0#32) (k : ℕ) : (Carry.next^[k] s).i = constantI S_ 32 (BitVec.ofNat 32 k) := by
  induction k with
  | zero => exact hs
  | succ k ih =>
    rw [Function.iterate_succ_apply']
    show addi (Carry.next^[k] s).i (constantI S_ 32 1#32) = _
    rw [ih]
    funext j
    show BitVec.ofNat 32 k + BitVec.ofNat 32 1 = BitVec.ofNat 32 (k + 1)
    exact (BitVec.ofNat_add ..).symm

/-- What either layer's scan carries, read off the buffers. -/
abbrev look : Fin 2 → Valuation τ sig (Elt F) → Carry F
  | 0, V => ⟨V main_v8_0, V main_v8_1, V main_v8_2, V main_v8_3, V main_v8_4⟩
  | 1, V => ⟨V main_v18_0, V main_v18_1, V main_v18_2, V main_v18_3, V main_v18_4⟩

/-- There are two scans. -/
theorem two : ∀ l : Fin 2, l = 0 ∨ l = 1 := by decide

/-- A trip's operations take what the scan carries to what it carries next. -/
theorem look_trip (l : Fin 2) (V : Valuation τ sig (Elt F)) : look l (trip l V) = (look l V).next := by
  rcases two l with rfl | rfl <;> refine Carry.ext ?_ ?_ ?_ ?_ ?_ <;> after_results_entrywise []

/-- The condition's operations change nothing that the scan carries. -/
theorem look_cond (l : Fin 2) (V : Valuation τ sig (Elt F)) : look l (StableHlo.after (condOps (bufs l)) V) = look l V := by
  rcases two l with rfl | rfl <;> refine Carry.ext ?_ ?_ ?_ ?_ ?_ <;> after_results_entrywise []

/-- What the first scan starts from. -/
theorem look_enter (V : Valuation τ sig (Elt F)) :
    look 0 (StableHlo.after enterOps V)
      = ⟨transpose S1024x64x512 [1, 0, 2] (addf (Host.dotGeneral dot_S64x1024x256_S512x256_S64x1024x512_2_1_01_0_n_n none (V main_arg0) (V main_arg1))
            (broadcastInDim S64x1024x512 ![0, 1, 2] bcast_S1x1x512_S64x1024x512_0_1_2 (broadcastInDim S1x1x512 ![2] bcast_S512_S1x1x512_2 (addf (V main_arg3) (V main_arg4)))))
            transposes_S64x1024x512_S1024x64x512_1_0_2,
          V main_arg2, constantI S_ 32 0#32, broadcastInDim S64x512 ![] bcast_S_S64x512 (constant S_ .f32 0x00000000#32),
          broadcastInDim S1024x64x512 ![] bcast_S_S1024x64x512 (constant S_ .f32 0x00000000#32)⟩ := by
  refine Carry.ext ?_ ?_ ?_ ?_ ?_ <;> after_results_entrywise []

/-- What the second scan starts from. -/
theorem look_mid (V : Valuation τ sig (Elt F)) :
    look 1 (StableHlo.after midOps V)
      = ⟨transpose S1024x64x512 [1, 0, 2] (addf (Host.dotGeneral dot_S64x1024x512_S512x512_S64x1024x512_2_1_01_0_n_n none
              (transpose S64x1024x512 [1, 0, 2] (V main_v8_4) transposes_S1024x64x512_S64x1024x512_1_0_2) (V main_arg5))
            (broadcastInDim S64x1024x512 ![0, 1, 2] bcast_S1x1x512_S64x1024x512_0_1_2 (broadcastInDim S1x1x512 ![2] bcast_S512_S1x1x512_2 (addf (V main_arg7) (V main_arg8)))))
            transposes_S64x1024x512_S1024x64x512_1_0_2,
          V main_arg6, constantI S_ 32 0#32, broadcastInDim S64x512 ![] bcast_S_S64x512 (constant S_ .f32 0x00000000#32),
          broadcastInDim S1024x64x512 ![] bcast_S_S1024x64x512 (constant S_ .f32 0x00000000#32)⟩ := by
  refine Carry.ext ?_ ?_ ?_ ?_ ?_ <;> after_results_entrywise []

/-- The result: the last step's state through the head. -/
theorem result_exit (V : Valuation τ sig (Elt F)) :
    StableHlo.after exitOps V main_v26
      = addf (Host.dotGeneral dot_S64x512_S512x2_S64x2_1_0_0_1_n_n none
          (shapeCast S64x512 (extractStridedSlice S64x1x512 ![0, 1023, 0] (transpose S64x1024x512 [1, 0, 2] (V main_v18_4) transposes_S1024x64x512_S64x1024x512_1_0_2) slices_S64x1024x512_S64x1x512_0_1023_0) shapeCasts_S64x1x512_S64x512)
          (transpose S512x2 [1, 0] (V main_arg9) transposes_S2x512_S512x2_1_0))
        (broadcastInDim S64x2 ![0, 1] bcast_S1x2_S64x2_0_1 (broadcastInDim S1x2 ![1] bcast_S2_S1x2_1 (V main_arg10))) := by
  after_results_entrywise []

/-- The arguments' buffers. -/
abbrev args : List (Ref sig .tc) :=
  [main_arg0, main_arg1, main_arg2, main_arg3, main_arg4, main_arg5, main_arg6, main_arg7, main_arg8, main_arg9, main_arg10]

/-- @main's stretches and a scan's trips write no argument. -/
theorem enter_kept (r : Ref sig .tc) (hr : r ∈ args) (V : Valuation τ sig (Elt F)) : StableHlo.after enterOps V r = V r :=
  StableHlo.after_unwritten [main_v0, main_v1, main_v2, main_v3, main_v4, main_cst, main_v5, main_v6, main_cst_0, main_v7, main_c,
    main_v8_0, main_v8_1, main_v8_2, main_v8_3, main_v8_4] rfl (by revert r; decide) V

@[inherit_doc enter_kept]
theorem mid_kept (r : Ref sig .tc) (hr : r ∈ args) (V : Valuation τ sig (Elt F)) : StableHlo.after midOps V r = V r :=
  StableHlo.after_unwritten [main_v9, main_v10, main_v11, main_v12, main_v13, main_v14, main_cst_1, main_v15, main_v16, main_cst_2, main_v17,
    main_c_3, main_v18_0, main_v18_1, main_v18_2, main_v18_3, main_v18_4] rfl (by revert r; decide) V

@[inherit_doc enter_kept]
theorem exit_kept (r : Ref sig .tc) (hr : r ∈ args) (V : Valuation τ sig (Elt F)) : StableHlo.after exitOps V r = V r :=
  StableHlo.after_unwritten [main_v19, main_v20, main_v21, main_v22, main_v23, main_v24, main_v25, main_v26] rfl (by revert r; decide) V

@[inherit_doc enter_kept]
theorem cond_kept (l : Fin 2) (r : Ref sig .tc) (hr : r ∈ args) (V : Valuation τ sig (Elt F)) : StableHlo.after (condOps (bufs l)) V r = V r :=
  StableHlo.after_unwritten [(bufs l).bound.ref, (bufs l).less.ref] rfl (by revert l r; decide) V

@[inherit_doc enter_kept]
theorem body_kept (l : Fin 2) (r : Ref sig .tc) (hr : r ∈ args) (V : Valuation τ sig (Elt F)) : StableHlo.after (bodyOps (bufs l)) V r = V r :=
  StableHlo.after_unwritten [(bufs l).read.c.ref, (bufs l).read.c_0.ref, (bufs l).read.v0.ref, (bufs l).read.v1.ref, (bufs l).wT.ref, (bufs l).prod.ref,
    (bufs l).sum.ref, (bufs l).new.ref, (bufs l).write.v0.ref, (bufs l).write.c.ref, (bufs l).write.c_0.ref, (bufs l).write.v1.ref, (bufs l).one.ref,
    (bufs l).next.ref, (bufs l).i.ref, (bufs l).h.ref, (bufs l).ys.ref] rfl (by revert l r; decide) V

end Cert.ReferenceIdeal.Rnn

end
-- ==== Proof.RefRun.lean ====
/- The reference's run: its stretches and its two scans one after another, and what every buffer holds at the end. -/
module

public import proofs.«01_k».proof.Proof.RefOps
public import Idealize.ShloMosaic.Lib.Scf.ExitTest
public import Idealize.ShloMosaic.Lib.Quiescent

@[expose] public section

noncomputable section

namespace Cert.ReferenceIdeal.Rnn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket ucRefs sub_ucRefs)
open Idealize.ShloMosaic.StableHlo (atTrip afterL Plain launchContents segsOf segsOf_chains loopSeg LoopCond)
open Cert.ReferenceIdeal.Facts₀

variable {F : FTy → Type} [FloatOps F]

local notation "𝕄" => MT nD τ sig Unit (Elt F) ℕ (Option PUnit) ℕ

/-! ## What the scans carry, trip by trip -/

/-- What a scan carries before its `k`-th trip is its start stepped `k` times. -/
theorem look_atTrip (l : Fin 2) (W₀ : Dev nD → Valuation τ sig (Elt F)) (c : Dev nD) (k : ℕ) :
    look l (atTrip (condOps (bufs l)) [bodyOps (bufs l)] W₀ k c) = Carry.next^[k] (look l (W₀ c)) := by
  induction k with
  | zero => rfl
  | succ k ih => rw [Function.iterate_succ_apply', ← ih]; exact look_trip l _

/-- The condition's comparison at a step's number. -/
theorem less_iff (k : ℕ) (hk : k ≤ 1024) : Iff (IntOp.cmpi .slt (BitVec.ofNat 32 k) 1024#32 = 1#1) (k < 1024) :=
  (by decide +kernel : ∀ k < 1025, Iff (IntOp.cmpi .slt (BitVec.ofNat 32 k) 1024#32 = 1#1) (k < 1024)) k (by omega)

/-- An argument is the same before every trip. -/
theorem atTrip_kept (l : Fin 2) (r : Ref sig .tc) (hr : r ∈ args) (W₀ : Dev nD → Valuation τ sig (Elt F)) (c : Dev nD) (k : ℕ) :
    atTrip (condOps (bufs l)) [bodyOps (bufs l)] W₀ k c r = W₀ c r := by
  induction k with
  | zero => rfl
  | succ k ih => exact ((body_kept l r hr _).trans (cond_kept l r hr _)).trans ih

/-! ## The run -/

/-- The buffers' contents as @main goes: before the first scan, after it, before the second, after it, and at the end. -/
abbrev W₁ (m : (ℓ : Loc nD τ sig) → Buf (Elt F) ℓ) (c : Dev nD) : Valuation τ sig (Elt F) := StableHlo.after enterOps (launchContents m c)
@[inherit_doc W₁]
abbrev W₂ (m : (ℓ : Loc nD τ sig) → Buf (Elt F) ℓ) (c : Dev nD) : Valuation τ sig (Elt F) :=
  StableHlo.after (condOps (bufs 0)) (atTrip (condOps (bufs 0)) [bodyOps (bufs 0)] (W₁ m) 1024 c)
@[inherit_doc W₁]
abbrev W₃ (m : (ℓ : Loc nD τ sig) → Buf (Elt F) ℓ) (c : Dev nD) : Valuation τ sig (Elt F) := StableHlo.after midOps (W₂ m c)
@[inherit_doc W₁]
abbrev W₄ (m : (ℓ : Loc nD τ sig) → Buf (Elt F) ℓ) (c : Dev nD) : Valuation τ sig (Elt F) :=
  StableHlo.after (condOps (bufs 1)) (atTrip (condOps (bufs 1)) [bodyOps (bufs 1)] (W₃ m) 1024 c)
@[inherit_doc W₁]
abbrev W₅ (m : (ℓ : Loc nD τ sig) → Buf (Elt F) ℓ) (c : Dev nD) : Valuation τ sig (Elt F) := StableHlo.after exitOps (W₄ m c)

/-- The reference launches no pipeline, so none needs admitting, -/
abbrev adm : (p : Fin 0) → (pcfgs (F := F) p).Adm := fun p => p.elim0
/-- none has a ticket, -/
abbrev tk : Fin 0 → Ticket (Ix := Unit) (Name := ℕ) (U := Option PUnit) (Lvl := ℕ) (nD := nD) (τ := τ) (pcfgs (F := F)) adm := fun j => j.elim0
/-- no counter is waited on, -/
abbrev noLevels : GSem nD τ sig → Finset Unit := fun _ => ∅
/-- and none has a level. -/
abbrev level : GSem nD τ sig → Unit → ℕ := fun _ _ => 0

/-- There is no staging cell. -/
theorem cells_injective : Function.Injective (Pipeline.cellOf (nD := nD) (τ := τ) (Pipeline.pin (pcfgs (F := F)) adm)) :=
  fun k => k.1.elim0

/-- What rides beside the buffers. -/
abbrev rest (c : Dev nD) : sProp 𝕄 := iprop(∃ W, owes (c : Thread nD τ) (0 : CellTallies nD τ sig Unit) W)

/-- The conditions and the bodies of the two scans. -/
abbrev conds : Fin 2 → Prog (TpuEff nD τ sig (Elt F) (HostLoop.Sig (Pipeline.Sig Λ₀ (Fin 0) fun p => (pcfgs (F := F) p).Adm) 2) .tc) (Elt F .i1)
  | 0 => main_while0_cond
  | 1 => main_while1_cond
@[inherit_doc conds]
abbrev bodies : Fin 2 → Prog (TpuEff nD τ sig (Elt F) (HostLoop.Sig (Pipeline.Sig Λ₀ (Fin 0) fun p => (pcfgs (F := F) p).Adm) 2) .tc) PUnit
  | 0 => main_while0_body
  | 1 => main_while1_body

/-- The condition finds a trip left exactly while fewer than all the steps are done. -/
theorem less0 (V : Valuation τ sig (Elt F)) (k : ℕ) (hk : k ≤ 1024) (hctr : (look 0 V).i = constantI S_ 32 (BitVec.ofNat 32 k)) :
    Iff (IntOp.cmpi .slt
      (HloOp.result (StableHlo.nullary main_while0c_c_8 (constantI S_ 32 1024#32) : HloOp τ sig (Elt F)) V main_v8_2 HostLoop.idx0)
      (HloOp.result (StableHlo.nullary main_while0c_c_8 (constantI S_ 32 1024#32) : HloOp τ sig (Elt F)) V main_while0c_c_8 HostLoop.idx0) = 1#1) (k < 1024) := by
  have hV : V main_v8_2 = constantI S_ 32 (BitVec.ofNat 32 k) := hctr
  rw [StableHlo.nullary_result_ne _ _ _ _ (by decide), StableHlo.nullary_result, hV]
  exact less_iff k hk

@[inherit_doc less0]
theorem less1 (V : Valuation τ sig (Elt F)) (k : ℕ) (hk : k ≤ 1024) (hctr : (look 1 V).i = constantI S_ 32 (BitVec.ofNat 32 k)) :
    Iff (IntOp.cmpi .slt
      (HloOp.result (StableHlo.nullary main_while1c_c_8 (constantI S_ 32 1024#32) : HloOp τ sig (Elt F)) V main_v18_2 HostLoop.idx0)
      (HloOp.result (StableHlo.nullary main_while1c_c_8 (constantI S_ 32 1024#32) : HloOp τ sig (Elt F)) V main_while1c_c_8 HostLoop.idx0) = 1#1) (k < 1024) := by
  have hV : V main_v18_2 = constantI S_ 32 (BitVec.ofNat 32 k) := hctr
  rw [StableHlo.nullary_result_ne _ _ _ _ (by decide), StableHlo.nullary_result, hV]
  exact less_iff k hk

set_option maxHeartbeats 1000000 in
set_option backward.isDefEq.respectTransparency.types false in
/-- The condition says whether a trip is left, and writes its two values alone. -/
theorem cond_spec (l : Fin 2) (W₀ : Dev nD → Valuation τ sig (Elt F)) (h0 : ∀ c, (look l (W₀ c)).i = constantI S_ 32 0#32) :
    LoopCond (Ix := Unit) (Name := ℕ) (U := Option PUnit) (Lvl := ℕ) (pcfgs (F := F)) defs₀ Variants.none loops rest (conds l) (condOps (bufs l)) [bodyOps (bufs l)] W₀ 1024 := by
  intro k hk c bd
  have hctr : (look l (atTrip (condOps (bufs l)) [bodyOps (bufs l)] W₀ k c)).i = constantI S_ 32 (BitVec.ofNat 32 k) :=
    (congrArg Carry.i (look_atTrip l W₀ c k)).trans (counter _ (h0 c) k)
  generalize atTrip (condOps (bufs l)) [bodyOps (bufs l)] W₀ k c = V at hctr ⊢
  rcases two l with rfl | rfl
  case' inl => change _ ⊢ wp _ _ _ main_while0_cond _; unfold main_while0_cond
  case' inr => change _ ⊢ wp _ _ _ main_while1_cond _; unfold main_while1_cond
  all_goals
    rw [wp_bind]
    iintro ⟨Hb, Hh, HR⟩
    iapply (StableHlo.wp_hlo_within (Variants.lift Variants.none) (c : Thread nD τ) bd Set.univ (sub_ucRefs _ (StableHlo.nullary_bufs_sub ..))) $$ [Hb Hh]
    · isplitl [Hb]; · iexact Hb
      iexact Hh
    iintro ⟨Hb, Hh⟩
    rw [wp_ret]; imodintro
    iapply (StableHlo.wp_hlo_within (Variants.lift Variants.none) (c : Thread nD τ) bd Set.univ (sub_ucRefs _ (StableHlo.binary_bufs_sub ..))) $$ [Hb Hh]
    · isplitl [Hb]; · iexact Hb
      iexact Hh
    iintro ⟨Hb, Hh⟩
    rw [HostLoop.elt_apply, wp_ret]; imodintro
    isplitr
    rotate_left
    · isplitl [Hb]; · iexact Hb
      isplitl [Hh]; · iexact Hh
      iexact HR
    ipureintro
  · exact less1 V k hk hctr
  · exact less0 V k hk hctr

/-- Every operation of a list writes the device's own buffers, and none of them allocates. -/
theorem plain_enter : Plain (F := F) (τ := τ) (sig := sig) [enterOps] :=
  Plain.cons (by unfold enterOps; simp only [List.Forall, StableHlo.nullary_bufs_sub, StableHlo.unary_bufs_sub, StableHlo.binary_bufs_sub, and_self]) Plain.nil
@[inherit_doc plain_enter]
theorem plain_mid : Plain (F := F) (τ := τ) (sig := sig) [midOps] :=
  Plain.cons (by unfold midOps; simp only [List.Forall, StableHlo.nullary_bufs_sub, StableHlo.unary_bufs_sub, StableHlo.binary_bufs_sub, and_self]) Plain.nil
@[inherit_doc plain_enter]
theorem plain_exit : Plain (F := F) (τ := τ) (sig := sig) [exitOps] :=
  Plain.cons (by unfold exitOps; simp only [List.Forall, StableHlo.nullary_bufs_sub, StableHlo.unary_bufs_sub, StableHlo.binary_bufs_sub, StableHlo.reshape_bufs_sub, and_self]) Plain.nil
@[inherit_doc plain_enter]
theorem plain_body (l : Fin 2) : Plain (F := F) (τ := τ) (sig := sig) [bodyOps (bufs l)] :=
  Plain.cons ⟨StableHlo.nullary_bufs_sub .., StableHlo.nullary_bufs_sub .., StableHlo.unaryIndexed_bufs_sub .., StableHlo.reshape_bufs_sub ..,
    StableHlo.unary_bufs_sub .., StableHlo.binary_bufs_sub .., StableHlo.binary_bufs_sub .., StableHlo.unary_bufs_sub .., StableHlo.unary_bufs_sub ..,
    StableHlo.nullary_bufs_sub .., StableHlo.nullary_bufs_sub .., StableHlo.binaryIndexed_bufs_sub .., StableHlo.nullary_bufs_sub .., StableHlo.binary_bufs_sub ..,
    StableHlo.unary_bufs_sub .., StableHlo.unary_bufs_sub .., StableHlo.unary_bufs_sub ..⟩ Plain.nil

/-- The label of a scan runs its condition and its body. -/
theorem loops_eq (l : Fin 2) : loops (F := F) l = HostLoop.step l (conds l) (bodies l) := by
  rcases two l with rfl | rfl <;> rfl

/-- A scan's body is its operations. -/
theorem bodies_eq (l : Fin 2) : bodies (F := F) l = Pipeline.chain ([bodyOps (bufs l)].map fun ops => StableHlo.seq ops) := by
  rcases two l with rfl | rfl
  · exact body0_chain
  · exact body1_chain

/-- A scan as one item of @main. -/
def scan (l : Fin 2) (W₀ : Dev nD → Valuation τ sig (Elt F)) (h0 : ∀ c, (look l (W₀ c)).i = constantI S_ 32 0#32) :
    CSeg (pcfgs (F := F)) adm defs₀ Variants.none noLevels level loops tk :=
  loopSeg _ _ _ _ _ _ _ _ l (conds l) (bodies l) (loops_eq l) (condOps (bufs l)) [bodyOps (bufs l)] (plain_body l) (bodies_eq l) 1024 W₀ rest (cond_spec l W₀ h0)

variable (m : (ℓ : Loc nD τ sig) → Buf (Elt F) ℓ) (ρ : Dev nD → PrngReg)

/-- Both scans count from zero. -/
theorem start0 (c : Dev nD) : (look 0 (W₁ m c)).i = constantI S_ 32 0#32 := congrArg Carry.i (look_enter _)
@[inherit_doc start0]
theorem start1 (c : Dev nD) : (look 1 (W₃ m c)).i = constantI S_ 32 0#32 := congrArg Carry.i (look_mid _)

/-- @main's items: the stretches and the scans between them. -/
def items : List (CSeg (pcfgs (F := F)) adm defs₀ Variants.none noLevels level loops tk) :=
  segsOf _ _ _ _ _ _ _ _ rest [enterOps] plain_enter (launchContents m) ++ scan 0 (W₁ m) (start0 m)
    :: (segsOf _ _ _ _ _ _ _ _ rest [midOps] plain_mid (W₂ m) ++ scan 1 (W₃ m) (start1 m)
      :: segsOf _ _ _ _ _ _ _ _ rest [exitOps] plain_exit (W₄ m))

/-- The items' programs, in order, are @main. -/
theorem items_prog (c : Dev nD) : main (F := F) c = Pipeline.chain ((items m).map CSeg.prog) := main_chain c

/-- The items' states chain from the launch's contents to the last. -/
theorem items_chain :
    CSeg.Chains (fun c => iprop(StableHlo.held (c : Thread nD τ) (ucRefs τ sig) (launchContents m c) ∗ rest c)) (items m)
      (fun c => iprop(iprop(StableHlo.held (c : Thread nD τ) (ucRefs τ sig) (W₅ m c)) ∗ ∃ W, owes (c : Thread nD τ) (0 : CellTallies nD τ sig Unit) W)) := by
  unfold items
  exact CSeg.Chains.append (segsOf_chains _ _ _ _ _ _ _ _ rest [enterOps] plain_enter _) ⟨fun _ => .rfl,
    CSeg.Chains.append (segsOf_chains _ _ _ _ _ _ _ _ rest [midOps] plain_mid _) ⟨fun _ => .rfl,
      segsOf_chains _ _ _ _ _ _ _ _ rest [exitOps] plain_exit _⟩⟩

/-- From any memory with zero counters every execution of @main ends, every buffer at its last contents. -/
theorem run :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = W₅ m c (Proc.devRef .tc b)) :=
  Pipeline.θ_run_regions_loop_kit (Ix := Unit) (Name := ℕ) (U := Option PUnit) (Lvl := ℕ) (J := Fin 0) (P := Fin 0) (Val := Elt F)
    pcfgs adm cells_injective defs₀ Variants.none noLevels level loops tk m ρ main (items m)
    (fun c Q => by
      rw [items_prog m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (ucRefs τ sig) (launchContents m c) ∗ rest c))
    (Tₙ := fun c => iprop(StableHlo.held (c : Thread nD τ) (ucRefs τ sig) (W₅ m c)))
    (hch := items_chain m)
    (hinit := by
      refine Pipeline.initEach noLevels level fun c => ?_
      rw [show unscopedBufs c (fun b => m ((c : Thread nD τ).loc b)) = StableHlo.held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W₅ m c b)
    (hfin := fun c s' => by
      unfold StableHlo.held
      iintro ⟨Hh, HSI⟩
      ihave Hr := (pointsTo_read_all (ucRefs τ sig) (fun b => ((c : Dev nD), b)) (fun b => W₅ m c b) s') $$ [Hh HSI]
      · isplitl [Hh] <;> iassumption
      icases Hr with ⟨%h, HSI⟩
      imodintro
      isplitr; · ipureintro; exact h
      iexact HSI)
    (hQ := fun _ h c b hb => h c _ (StableHlo.devRef_mem_ucRefs b hb))

/-- An argument holds at the end what it held at the start. -/
theorem kept (r : Ref sig .tc) (hr : r ∈ args) (c : Dev nD) : W₅ m c r = m ((c.tc : Thread nD τ).loc r) :=
  (exit_kept r hr _).trans <| (cond_kept 1 r hr _).trans <| (atTrip_kept 1 r hr _ _ _).trans <| (mid_kept r hr _).trans <|
    (cond_kept 0 r hr _).trans <| (atTrip_kept 0 r hr _ _ _).trans <| (enter_kept r hr _).trans rfl

end Cert.ReferenceIdeal.Rnn

end
-- ==== Proof.RefMath.lean ====
/- The reference's arithmetic over the extended reals, by coordinates. -/
module

public import proofs.«01_k».proof.Proof.Model
public import proofs.«01_k».proof.Proof.RefOps
public import Idealize.ShloMosaic.Lib.DynamicIndex

@[expose] public section

noncomputable section

namespace Cert.ReferenceIdeal.Rnn

open Idealize.ShloMosaic Idealize.SL.Sem
open Cert.ReferenceIdeal.Facts₀
open Cert.Rnn (St states)

variable {F : FTy → Type} [FloatOps F]

/-- A state by coordinates. -/
def st (h : Vec Ideal S64x512 .f32) : St := fun r j => h (ix2 r j)
/-- The weights, transposed, by coordinates. -/
def matT (w : Vec Ideal S512x512 .f32) : Fin 512 → Fin 512 → EReal := fun q j => w (ix2 j q)
/-- The inputs or the states of all the steps by number, the numbers wrapping round. -/
def times (xs : Vec Ideal S1024x64x512 .f32) (t : ℕ) : St := fun r j => xs (ix3 (⟨t % 1024, Nat.mod_lt t (by decide)⟩ : Fin 1024) r j)

/-- The start of a step's row. -/
theorem start_at (k : ℕ) (hk : k < 1024) (a : Fin 3) :
    ((![constantI S_ 32 (BitVec.ofNat 32 k), constantI S_ 32 0#32, constantI S_ 32 0#32] : Fin 3 → IVec S_ 32) a (Shape.Idx.first h_S_)).toInt
      = ((![k, 0, 0] : Fin 3 → ℕ) a : ℤ) := by
  match a with
  | 0 => exact toInt_ofNat_of_lt (by omega)
  | 1 => rfl
  | 2 => rfl

/-- A step's row lies inside the array. -/
theorem row_fits (k : ℕ) (hk : k < 1024) : S1024x64x512.Slices ![k, 0, 0] S1x64x512 :=
  ⟨rfl, fun a => match a with
    | 0 => (by omega : k + 1 ≤ 1024)
    | 1 => (by decide : 0 + 64 ≤ 64)
    | 2 => (by decide : 0 + 512 ≤ 512)⟩

/-- The step's input. -/
theorem pick_at (xs : Vec Ideal S1024x64x512 .f32) (k : ℕ) (hk : k < 1024) (r : Fin 64) (j : Fin 512) :
    pick xs (constantI S_ 32 (BitVec.ofNat 32 k)) (ix2 r j) = xs (ix3 (⟨k, hk⟩ : Fin 1024) r j) := by
  unfold pick
  rw [Host.dynamicSlice_eq_extractStridedSlice S1x64x512 xs _ ![k, 0, 0] _ (row_fits k hk) (start_at k hk)]
  pointwise

set_option maxRecDepth 16384 in
/-- One step's update. -/
theorem step_at (xs : Vec Ideal S1024x64x512 .f32) (w : Vec Ideal S512x512 .f32) (i : IVec S_ 32) (h : Vec Ideal S64x512 .f32) (r : Fin 64) (j : Fin 512) :
    step xs w i h (ix2 r j) = Ideal.tanh (pick xs i (ix2 r j) + ∑ q : Fin 512, h (ix2 r q) * w (ix2 j q)) := by
  unfold step
  generalize pick xs i = x
  pointwise

/-- One step is the recurrence's. -/
theorem step_st (xs : Vec Ideal S1024x64x512 .f32) (w : Vec Ideal S512x512 .f32) (k : ℕ) (hk : k < 1024) (h : Vec Ideal S64x512 .f32) :
    st (step xs w (constantI S_ 32 (BitVec.ofNat 32 k)) h) = Cert.Rnn.step (matT w) (times xs k) (st h) := by
  funext r j
  show step xs w _ h (ix2 r j) = Ideal.tanh (times xs k r j + _)
  rw [step_at, pick_at xs k hk]
  unfold times
  simp only [Nat.mod_eq_of_lt hk]
  rfl

/-- The states of all the steps with one more stored. -/
theorem put_at (ys : Vec Ideal S1024x64x512 .f32) (k : ℕ) (hk : k < 1024) (h : Vec Ideal S64x512 .f32) (t : Fin 1024) (r : Fin 64) (j : Fin 512) :
    put ys (constantI S_ 32 (BitVec.ofNat 32 k)) h (ix3 t r j) = if t.val = k then h (ix2 r j) else ys (ix3 t r j) := by
  unfold put
  rw [Host.dynamicUpdateSlice_eq_updateSlice ys _ _ _ ![k, 0, 0]
    (fun a => by have := (row_fits k hk).2 a; rw [start_at k hk a]; omega) (row_fits k hk)]
  pointwise
  by_cases e : t.val = k
  · rw [dif_pos ⟨e.ge, by omega⟩, if_pos e]
  · rw [dif_neg (by omega), if_neg e]

/-- The inputs and the weights stay. -/
theorem scan_xs (s : Carry F) (k : ℕ) : (Carry.next^[k] s).xs = s.xs ∧ (Carry.next^[k] s).w = s.w := by
  induction k with
  | zero => exact ⟨rfl, rfl⟩
  | succ k ih => rw [Function.iterate_succ_apply']; exact ih

/-- A scan's state after `k` steps is the recurrence's. -/
theorem scan_st (s : Carry Ideal) (hs : s.i = constantI S_ 32 0#32) (k : ℕ) (hk : k ≤ 1024) :
    st (Carry.next^[k] s).h = states (matT s.w) (times s.xs) (st s.h) k := by
  induction k with
  | zero => rfl
  | succ k ih =>
    rw [Function.iterate_succ_apply']
    show st (step (Carry.next^[k] s).xs (Carry.next^[k] s).w (Carry.next^[k] s).i (Carry.next^[k] s).h) = _
    rw [counter s hs, (scan_xs s k).1, (scan_xs s k).2, step_st _ _ k (by omega), ih (by omega)]
    rfl

/-- What a scan has stored after `k` steps: at each of their numbers the state after that step. -/
theorem scan_ys (s : Carry Ideal) (hs : s.i = constantI S_ 32 0#32) (k : ℕ) (hk : k ≤ 1024) (t : Fin 1024) (ht : t.val < k) (r : Fin 64) (j : Fin 512) :
    (Carry.next^[k] s).ys (ix3 t r j) = states (matT s.w) (times s.xs) (st s.h) (t.val + 1) r j := by
  induction k with
  | zero => exact absurd ht (Nat.not_lt_zero _)
  | succ k ih =>
    have hst := scan_st s hs (k + 1) hk
    rw [Function.iterate_succ_apply'] at hst ⊢
    show put (Carry.next^[k] s).ys (Carry.next^[k] s).i (Carry.next (Carry.next^[k] s)).h (ix3 t r j) = _
    rw [counter s hs, put_at _ k (by omega)]
    by_cases e : t.val = k
    · rw [if_pos e, e, ← hst]; rfl
    · rw [if_neg e, ih (by omega) (by omega)]

/-- The first layer's inputs, from the arguments. -/
def inputs₁ (x : Vec F S64x1024x256 .f32) (w : Vec F S512x256 .f32) (b b' : Vec F S512 .f32) : Vec F S1024x64x512 .f32 :=
  transpose S1024x64x512 [1, 0, 2] (addf (Host.dotGeneral dot_S64x1024x256_S512x256_S64x1024x512_2_1_01_0_n_n none x w)
    (broadcastInDim S64x1024x512 ![0, 1, 2] bcast_S1x1x512_S64x1024x512_0_1_2 (broadcastInDim S1x1x512 ![2] bcast_S512_S1x1x512_2 (addf b b'))))
    transposes_S64x1024x512_S1024x64x512_1_0_2

/-- The second layer's inputs, from the first layer's states. -/
def inputs₂ (y : Vec F S1024x64x512 .f32) (w : Vec F S512x512 .f32) (b b' : Vec F S512 .f32) : Vec F S1024x64x512 .f32 :=
  transpose S1024x64x512 [1, 0, 2] (addf (Host.dotGeneral dot_S64x1024x512_S512x512_S64x1024x512_2_1_01_0_n_n none
      (transpose S64x1024x512 [1, 0, 2] y transposes_S1024x64x512_S64x1024x512_1_0_2) w)
    (broadcastInDim S64x1024x512 ![0, 1, 2] bcast_S1x1x512_S64x1024x512_0_1_2 (broadcastInDim S1x1x512 ![2] bcast_S512_S1x1x512_2 (addf b b'))))
    transposes_S64x1024x512_S1024x64x512_1_0_2

/-- The result, from the second layer's states. -/
def output (y : Vec F S1024x64x512 .f32) (w : Vec F S2x512 .f32) (b : Vec F S2 .f32) : Vec F S64x2 .f32 :=
  addf (Host.dotGeneral dot_S64x512_S512x2_S64x2_1_0_0_1_n_n none
      (shapeCast S64x512 (extractStridedSlice S64x1x512 ![0, 1023, 0] (transpose S64x1024x512 [1, 0, 2] y transposes_S1024x64x512_S64x1024x512_1_0_2) slices_S64x1024x512_S64x1x512_0_1023_0) shapeCasts_S64x1x512_S64x512)
      (transpose S512x2 [1, 0] w transposes_S2x512_S512x2_1_0))
    (broadcastInDim S64x2 ![0, 1] bcast_S1x2_S64x2_0_1 (broadcastInDim S1x2 ![1] bcast_S2_S1x2_1 b))

set_option maxRecDepth 16384 in
/-- The first layer's inputs by coordinates. -/
theorem inputs₁_at (x : Vec Ideal S64x1024x256 .f32) (w : Vec Ideal S512x256 .f32) (b b' : Vec Ideal S512 .f32) (t : Fin 1024) (r : Fin 64) (j : Fin 512) :
    inputs₁ x w b b' (ix3 t r j) = (∑ q : Fin 256, x (ix3 r t q) * w (ix2 j q)) + (b (ix1 j) + b' (ix1 j)) := by
  pointwise [inputs₁]

set_option maxRecDepth 16384 in
/-- The second layer's inputs by coordinates. -/
theorem inputs₂_at (y : Vec Ideal S1024x64x512 .f32) (w : Vec Ideal S512x512 .f32) (b b' : Vec Ideal S512 .f32) (t : Fin 1024) (r : Fin 64) (j : Fin 512) :
    inputs₂ y w b b' (ix3 t r j) = (∑ q : Fin 512, y (ix3 t r q) * w (ix2 j q)) + (b (ix1 j) + b' (ix1 j)) := by
  pointwise [inputs₂]

set_option maxRecDepth 16384 in
/-- The result by coordinates. -/
theorem output_at (y : Vec Ideal S1024x64x512 .f32) (w : Vec Ideal S2x512 .f32) (b : Vec Ideal S2 .f32) (r : Fin 64) (o : Fin 2) :
    output y w b (ix2 r o) = (∑ q : Fin 512, y (ix3 (1023 : Fin 1024) r q) * w (ix2 o q)) + b (ix1 o) := by
  pointwise [output]

end Cert.ReferenceIdeal.Rnn

end
-- ==== Proof.RefValue.lean ====
/- What the reference leaves in its result: the two layers' recurrence and the output layer, from the arguments. -/
module

public import proofs.«01_k».proof.Proof.RefRun
public import proofs.«01_k».proof.Proof.RefMath
public import proofs.«01_k».proof.Defs

@[expose] public section

noncomputable section

namespace Cert.ReferenceIdeal.Rnn

open Idealize.ShloMosaic Idealize.ShloMosaic.TcCoe Idealize.SL.Sem
open Idealize.ShloMosaic.StableHlo (atTrip launchContents)
open Cert.ReferenceIdeal.Facts₀
open Cert.Rnn (St states states_congr params Params)

/-- A scan from a state of zeros. -/
abbrev begin (xs : Vec Ideal S1024x64x512 .f32) (w : Vec Ideal S512x512 .f32) : Carry Ideal :=
  ⟨xs, w, constantI S_ 32 0#32, broadcastInDim S64x512 ![] bcast_S_S64x512 (constant (F := Ideal) S_ .f32 0x00000000#32),
    broadcastInDim S1024x64x512 ![] bcast_S_S1024x64x512 (constant (F := Ideal) S_ .f32 0x00000000#32)⟩

/-- The state of zeros by coordinates. -/
theorem zero_st : st (broadcastInDim S64x512 ![] bcast_S_S64x512 (constant (F := Ideal) S_ .f32 0x00000000#32)) = fun _ _ => 0 := by
  funext r j
  unfold st
  pointwise

/-- What a scan has stored once all the steps are done. -/
def stored (s : Carry Ideal) : Vec Ideal S1024x64x512 .f32 := (Carry.next^[1024] s).ys

/-- What a scan of all the steps has stored at a step: the state after it. -/
theorem scanned (xs : Vec Ideal S1024x64x512 .f32) (w : Vec Ideal S512x512 .f32) (t : Fin 1024) (r : Fin 64) (j : Fin 512) :
    stored (begin xs w) (ix3 t r j) = states (matT w) (times xs) (fun _ _ => 0) (t.val + 1) r j := by
  rw [← zero_st]
  exact scan_ys (begin xs w) rfl 1024 le_rfl t t.isLt r j

section Arguments
variable (a0 : Vec Ideal S64x1024x256 .f32) (a1 : Vec Ideal S512x256 .f32) (a2 : Vec Ideal S512x512 .f32) (a3 a4 : Vec Ideal S512 .f32)
  (a5 a6 : Vec Ideal S512x512 .f32) (a7 a8 : Vec Ideal S512 .f32) (a9 : Vec Ideal S2x512 .f32) (a10 : Vec Ideal S2 .f32)

/-- The first layer's states, as the first scan stores them. -/
def first : Vec Ideal S1024x64x512 .f32 := stored (begin (inputs₁ a0 a1 a3 a4) a2)
/-- The second layer's states, as the second scan stores them. -/
def second : Vec Ideal S1024x64x512 .f32 := stored (begin (inputs₂ (first a0 a1 a2 a3 a4) a5 a7 a8) a6)

/-- The first layer's inputs are the recurrence's. -/
theorem times₁ : times (inputs₁ a0 a1 a3 a4) = (params a0 a1 a2 a3 a4 a5 a6 a7 a8 a9 a10).in₁ := by
  funext t r j
  exact inputs₁_at a0 a1 a3 a4 _ r j

/-- The first scan stores the first layer's states. -/
theorem first_at (t : Fin 1024) (r : Fin 64) (j : Fin 512) :
    first a0 a1 a2 a3 a4 (ix3 t r j) = (params a0 a1 a2 a3 a4 a5 a6 a7 a8 a9 a10).h₁ (t.val + 1) r j := by
  unfold first
  rw [scanned, times₁ a0 a1 a2 a3 a4 a5 a6 a7 a8 a9 a10]
  rfl

/-- The second layer's inputs are the recurrence's. -/
theorem times₂ (t : ℕ) (ht : t < 1024) :
    times (inputs₂ (first a0 a1 a2 a3 a4) a5 a7 a8) t = (params a0 a1 a2 a3 a4 a5 a6 a7 a8 a9 a10).in₂ t := by
  funext r j
  have h : ∀ q, first a0 a1 a2 a3 a4 (ix3 (⟨t % 1024, Nat.mod_lt t (by decide)⟩ : Fin 1024) r q) = (params a0 a1 a2 a3 a4 a5 a6 a7 a8 a9 a10).h₁ (t + 1) r q := by
    intro q
    rw [first_at a0 a1 a2 a3 a4 a5 a6 a7 a8 a9 a10]
    simp only [Nat.mod_eq_of_lt ht]
  unfold times
  rw [inputs₂_at]
  simp only [h]
  rfl

/-- The second scan stores the second layer's states. -/
theorem second_at (t : Fin 1024) (r : Fin 64) (j : Fin 512) :
    second a0 a1 a2 a3 a4 a5 a6 a7 a8 (ix3 t r j) = (params a0 a1 a2 a3 a4 a5 a6 a7 a8 a9 a10).h₂ (t.val + 1) r j := by
  unfold second
  rw [scanned, states_congr _ _ _ _ _ fun n hn => times₂ a0 a1 a2 a3 a4 a5 a6 a7 a8 a9 a10 n (by omega)]
  rfl

/-- The output layer on the last of them is the model's result. -/
theorem output_eq (r : Fin 64) (o : Fin 2) :
    output (second a0 a1 a2 a3 a4 a5 a6 a7 a8) a9 a10 (ix2 r o) = (params a0 a1 a2 a3 a4 a5 a6 a7 a8 a9 a10).out r o := by
  rw [output_at]
  have h : ∀ q, second a0 a1 a2 a3 a4 a5 a6 a7 a8 (ix3 (1023 : Fin 1024) r q) = (params a0 a1 a2 a3 a4 a5 a6 a7 a8 a9 a10).h₂ 1024 r q :=
    fun q => second_at a0 a1 a2 a3 a4 a5 a6 a7 a8 a9 a10 1023 r q
  simp only [h]
  rfl

end Arguments

variable (m : (ℓ : Loc nD τ sig) → Buf (Elt Ideal) ℓ) (c : Dev nD)

/-- What an argument's buffer holds at the launch. -/
abbrev arg (r : Ref sig .tc) : Buf (Elt Ideal) ((c.tc : Thread nD τ).loc r) := m ((c.tc : Thread nD τ).loc r)

/-- An argument after the first scan is as at the launch, -/
theorem kept₂ (r : Ref sig .tc) (hr : r ∈ args) : W₂ m c r = arg m c r :=
  (cond_kept 0 r hr _).trans <| (atTrip_kept 0 r hr _ _ _).trans <| (enter_kept r hr _).trans rfl

/-- and so after the second. -/
theorem kept₄ (r : Ref sig .tc) (hr : r ∈ args) : W₄ m c r = arg m c r :=
  (cond_kept 1 r hr _).trans <| (atTrip_kept 1 r hr _ _ _).trans <| (mid_kept r hr _).trans (kept₂ m c r hr)

/-- Where the first scan starts, from what the arguments hold. -/
theorem enter_of (V : Valuation τ sig (Elt Ideal)) : look 0 (StableHlo.after enterOps V) = begin (inputs₁ (V main_arg0) (V main_arg1) (V main_arg3) (V main_arg4)) (V main_arg2) :=
  look_enter V

/-- Where the second scan starts, from the first layer's states and what the arguments hold. -/
theorem mid_of (V : Valuation τ sig (Elt Ideal)) (y : Vec Ideal S1024x64x512 .f32) (a5 a6 : Vec Ideal S512x512 .f32) (a7 a8 : Vec Ideal S512 .f32)
    (h : (look 0 V).ys = y) (h5 : V main_arg5 = a5) (h6 : V main_arg6 = a6) (h7 : V main_arg7 = a7) (h8 : V main_arg8 = a8) :
    look 1 (StableHlo.after midOps V) = begin (inputs₂ y a5 a7 a8) a6 := by
  subst h h5 h6 h7 h8
  exact look_mid V

/-- The result, from the second layer's states and what the arguments hold. -/
theorem exit_of (V : Valuation τ sig (Elt Ideal)) (y : Vec Ideal S1024x64x512 .f32) (a9 : Vec Ideal S2x512 .f32) (a10 : Vec Ideal S2 .f32)
    (h : (look 1 V).ys = y) (h9 : V main_arg9 = a9) (h10 : V main_arg10 = a10) :
    StableHlo.after exitOps V main_v26 = output y a9 a10 := by
  subst h h9 h10
  exact result_exit V

/-- What either scan of all the steps has stored, from where it starts. -/
theorem scan_of (l : Fin 2) (W₀ : Dev nD → Valuation τ sig (Elt Ideal)) (s : Carry Ideal) (h : look l (W₀ c) = s) :
    (look l (StableHlo.after (condOps (bufs l)) (atTrip (condOps (bufs l)) [bodyOps (bufs l)] W₀ 1024 c))).ys = stored s := by
  subst h
  exact congrArg Carry.ys ((look_cond l _).trans (look_atTrip l W₀ c 1024))

/-- The first scan leaves the first layer's states. -/
theorem states₁ : (look 0 (W₂ m c)).ys = first (arg m c main_arg0) (arg m c main_arg1) (arg m c main_arg2) (arg m c main_arg3) (arg m c main_arg4) :=
  scan_of c 0 (W₁ m) _ (enter_of (launchContents m c))

/-- The second scan leaves the second layer's states. -/
theorem states₂ : (look 1 (W₄ m c)).ys = second (arg m c main_arg0) (arg m c main_arg1) (arg m c main_arg2) (arg m c main_arg3) (arg m c main_arg4)
    (arg m c main_arg5) (arg m c main_arg6) (arg m c main_arg7) (arg m c main_arg8) :=
  scan_of c 1 (W₃ m) _ (mid_of (W₂ m c) _ _ _ _ _ (states₁ m c) (kept₂ m c main_arg5 (by decide)) (kept₂ m c main_arg6 (by decide))
    (kept₂ m c main_arg7 (by decide)) (kept₂ m c main_arg8 (by decide)))

/-- The result at the end. -/
theorem result_eq : W₅ m c main_v26 = fun y => (params (arg m c main_arg0) (arg m c main_arg1) (arg m c main_arg2) (arg m c main_arg3) (arg m c main_arg4)
    (arg m c main_arg5) (arg m c main_arg6) (arg m c main_arg7) (arg m c main_arg8) (arg m c main_arg9) (arg m c main_arg10)).out (y 0) (y 1) := by
  refine (exit_of (W₄ m c) _ _ _ (states₂ m c) (kept₄ m c main_arg9 (by decide)) (kept₄ m c main_arg10 (by decide))).trans ?_
  funext y
  refine (congrArg (output _ _ _) (eq_ix2 y)).trans ?_
  exact output_eq _ _ _ _ _ _ _ _ _ _ _ (y 0) (y 1)

end Cert.ReferenceIdeal.Rnn

end
-- ==== Proof.Equal.lean ====
/- The reference's frame, and the equality of the two programs' results. -/
module

public import proofs.«01_k».proof.Proof.Frames
public import proofs.«01_k».proof.Proof.KernelValue
public import proofs.«01_k».proof.Proof.RefValue

@[expose] public section

noncomputable section

namespace Cert.ReferenceIdeal.Rnn

open Idealize.ShloMosaic Idealize.ShloMosaic.TcCoe Idealize.SL.Sem

/-- At the end of a run the arguments are as they were. -/
theorem args_kept (m : (ℓ : Loc nD τ sig) → Buf (Elt Ideal) ℓ) (r : PUnit × MemSt nD τ sig (Elt Ideal))
    (h : ∀ (c : Dev nD) (b : Ref sig .tc), (Proc.devRef .tc b : DevRef τ sig).isScoped = false → r.2.mem ((c.tc : Thread nD τ).loc b) = W₅ m c (Proc.devRef .tc b)) :
    ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  fun c =>
  have same (b : Ref sig .tc) (hb : b ∈ args) (hs : (Proc.devRef .tc b : DevRef τ sig).isScoped = false) :
      r.2.mem ((c.tc : Thread nD τ).loc b) = m ((c.tc : Thread nD τ).loc b) := (h c b hs).trans (kept m b hb c)
  ⟨same main_arg0 (by decide) rfl,
    same main_arg1 (by decide) rfl,
    same main_arg2 (by decide) rfl,
    same main_arg3 (by decide) rfl,
    same main_arg4 (by decide) rfl,
    same main_arg5 (by decide) rfl,
    same main_arg6 (by decide) rfl,
    same main_arg7 (by decide) rfl,
    same main_arg8 (by decide) rfl,
    same main_arg9 (by decide) rfl,
    same main_arg10 (by decide) rfl⟩

end Cert.ReferenceIdeal.Rnn

namespace Cert.Proof
open Idealize.ShloMosaic Idealize.ShloMosaic.TcCoe Idealize.SL.Sem

/-- The reference ends with its arguments as they were and every counter at zero. -/
theorem frame_ReferenceIdeal : Cert.quiescent_ReferenceIdeal (hReferenceIdeal := Cert.ReferenceIdeal.Gen.facts) :=
  fun m g _ => (θ_run _ _ _).mono (fun r h => ⟨Cert.ReferenceIdeal.Rnn.args_kept m r h, sem_eq_zero_of_no_sems (by decide) r.2⟩)
    (Cert.ReferenceIdeal.Rnn.run m g)

/-- Where the two programs' arguments agree, so do the values their results are. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
        ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
        ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Rnn.W₅ m' c Cert.ReferenceIdeal.main_v26 = fun y => (Cert.KernelIdeal.Rnn.par m c).out (y 0) (y 1) := by
  obtain ⟨h0, h1, h2, h3, h4, h5, h6, h7, h8, h9, h10⟩ := h
  refine (Cert.ReferenceIdeal.Rnn.result_eq m' c).trans ?_
  unfold Cert.ReferenceIdeal.Rnn.arg Cert.KernelIdeal.Rnn.par
  rw [h0, h1, h2, h3, h4, h5, h6, h7, h8, h9, h10]

/-- The kernel and the reference, from equal arguments, end with equal results: the model's. -/
theorem results_equal : Cert.algebraic_KernelIdeal_ReferenceIdeal (hKernelIdeal := Cert.KernelIdeal.Gen.facts) (hReferenceIdeal := Cert.ReferenceIdeal.Gen.facts) :=
  fun m g m' g' _ h => ⟨fun c y => (Cert.KernelIdeal.Rnn.par m c).out (y 0) (y 1),
    (θ_run _ _ _).mono (fun r hr c => ⟨((hr.1 c).1 9).trans (Cert.KernelIdeal.Rnn.out_at m c), Cert.KernelIdeal.Rnn.args_kept m r hr.1 c⟩)
      (Cert.KernelIdeal.Rnn.run_main m g),
    (θ_run _ _ _).mono (fun r hr c => ⟨(hr c Cert.ReferenceIdeal.main_v26 rfl).trans (values_agree m m' c (h c)), Cert.ReferenceIdeal.Rnn.args_kept m' r hr c⟩)
      (Cert.ReferenceIdeal.Rnn.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The three frames, the idealization's ledger, and the equality of the kernel's result with the reference's. -/
theorem claim : Cert.Claim :=
  ⟨Cert.Kernel.Gen.facts, Cert.KernelIdeal.Gen.facts, Cert.ReferenceIdeal.Gen.facts,
    frame_Kernel, frame_KernelIdeal, frame_ReferenceIdeal, trivial, results_equal⟩

end Cert.Proof

end
